-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S8x176x4096 : Shape := ⟨3, ![8, 176, 4096]⟩
abbrev S8x160x4096 : Shape := ⟨3, ![8, 160, 4096]⟩
abbrev S7 : Shape := ⟨1, ![7]⟩
abbrev S_ : Shape := ⟨0, ![]⟩
abbrev S176x4096 : Shape := ⟨2, ![176, 4096]⟩
abbrev S1x176x4096 : Shape := ⟨3, ![1, 176, 4096]⟩
abbrev S160x4096 : Shape := ⟨2, ![160, 4096]⟩
abbrev S1x160x4096 : Shape := ⟨3, ![1, 160, 4096]⟩
abbrev S176x256 : Shape := ⟨2, ![176, 256]⟩
abbrev S160x256 : Shape := ⟨2, ![160, 256]⟩

abbrev nBuf : Space → Nat
  | .hbm => 5
  | .vmem => 7
  | .smem => 2
  | _ => 0

abbrev bufTy : (tb : Table) → Fin (tcTables nBuf tb) → BufTy
  | .hbm, ⟨0, _⟩ => ⟨S512x4096, .fp8e4m3⟩
  | .hbm, ⟨1, _⟩ => ⟨S4096x256, .fp8e4m3⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .fp8e4m3⟩
  | .local _ .vmem, ⟨1, _⟩ => ⟨S4096x256, .fp8e4m3⟩
  | .local _ .vmem, ⟨2, _⟩ => ⟨S4096x256, .f32⟩
  | .local _ .vmem, ⟨3, _⟩ => ⟨S8x176x4096, .fp8e4m3⟩
  | .local _ .vmem, ⟨4, _⟩ => ⟨S8x176x4096, .fp8e4m3⟩
  | .local _ .vmem, ⟨5, _⟩ => ⟨S8x160x4096, .fp8e4m3⟩
  | .local _ .vmem, ⟨6, _⟩ => ⟨S4096x256, .fp8e4m3⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v19 : Index := Scalar.indexCast v2
  let c0_13 : Index := 0#32
  let c0_14 : Index := 0#32
  ![v19.toNat, 0, 0]
def k0_off2 (d0 : Dev nD) (c0_i32_15 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v23 : BitVec 32 := Scalar.xori v2 c0_i32_15
  let c0_i32_21 : BitVec 32 := 0#32
  let c0_i32_22 : BitVec 32 := 0#32
  ![v23.toNat, 0, 0]
def k0_off2_at (r : Fin 6) : BitVec 32 :=
  if r.val < 3 then
    if r.val < 1 then
      0#32
    else
      if r.val < 2 then
        1#32
      else
        3#32
  else
    if r.val < 4 then
      2#32
    else
      if r.val < 5 then
        4#32
      else
        7#32
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v24 : BitVec 32 := Scalar.xori v2 c1_i32_16
  let c1_i32_19 : BitVec 32 := 1#32
  let v25 : BitVec 32 := Scalar.muli v24 c1_i32_19
  let v26 : BitVec 32 := Scalar.addi c0_i32_20 v25
  v26.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v43 : BitVec 32 := Scalar.xori v2 c3_i32_29
  let c1_i32_32 : BitVec 32 := 1#32
  let v44 : BitVec 32 := Scalar.muli v43 c1_i32_32
  let v45 : BitVec 32 := Scalar.addi c0_i32_33 v44
  v45.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : Index := Scalar.indexCast v2
  let c0_39 : Index := 0#32
  let c0_40 : Index := 0#32
  ![v57.toNat, 0, 0]
def k0_off4 (d0 : Dev nD) (c0_i32_41 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v61 : BitVec 32 := Scalar.xori v2 c0_i32_41
  let c0_i32_47 : BitVec 32 := 0#32
  let c0_i32_48 : BitVec 32 := 0#32
  ![v61.toNat, 0, 0]
def k0_off4_at (r : Fin 4) : BitVec 32 :=
  if r.val < 2 then
    if r.val < 1 then
      0#32
    else
      4#32
  else
    if r.val < 3 then
      1#32
    else
      5#32
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_42 : BitVec 32 := 4#32
  let v62 : BitVec 32 := Scalar.xori v2 c4_i32_42
  let c1_i32_45 : BitVec 32 := 1#32
  let v63 : BitVec 32 := Scalar.muli v62 c1_i32_45
  let v64 : BitVec 32 := Scalar.addi c0_i32_46 v63
  v64.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v74 : BitVec 32 := Scalar.xori v2 c3_i32_52
  let c1_i32_59 : BitVec 32 := 1#32
  let v79 : BitVec 32 := Scalar.muli v74 c1_i32_59
  let v80 : BitVec 32 := Scalar.addi c0_i32_60 v79
  v80.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_54 : BitVec 32 := 4#32
  let v76 : BitVec 32 := Scalar.xori v2 c4_i32_54
  let c1_i32_67 : BitVec 32 := 1#32
  let v89 : BitVec 32 := Scalar.muli v76 c1_i32_67
  let v90 : BitVec 32 := Scalar.addi c0_i32_68 v89
  v90.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let v78 : BitVec 32 := Scalar.xori v2 c1_i32_56
  let c1_i32_75 : BitVec 32 := 1#32
  let v99 : BitVec 32 := Scalar.muli v78 c1_i32_75
  let v100 : BitVec 32 := Scalar.addi c0_i32_76 v99
  v100.toNat
def k0_off5 (d0 : Dev nD) (c0_i32_89 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v123 : BitVec 32 := Scalar.muli v2 c512_i32
  let v124 : BitVec 32 := Scalar.addi v123 c0_i32_89
  let v125 : Index := Scalar.indexCast v124
  let c0_90 : Index := 0#32
  ![v125.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_103 : BitVec 32 := 512#32
  let v149 : BitVec 32 := Scalar.muli v2 c512_i32_103
  let c352_i32 : BitVec 32 := 352#32
  let v150 : BitVec 32 := Scalar.addi v149 c352_i32
  let v151 : Index := Scalar.indexCast v150
  let c0_104 : Index := 0#32
  ![v151.toNat, 0]
def k0_dev10 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_121 : BitVec 32 := 3#32
  let v168 : BitVec 32 := Scalar.xori v2 c3_i32_121
  let c1_i32_123 : BitVec 32 := 1#32
  let v169 : BitVec 32 := Scalar.muli v168 c1_i32_123
  let v170 : BitVec 32 := Scalar.addi c0_i32_124 v169
  v170.toNat
def k0_dev11 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_145 : BitVec 32 := 4#32
  let v194 : BitVec 32 := Scalar.xori v2 c4_i32_145
  let c1_i32_148 : BitVec 32 := 1#32
  let v195 : BitVec 32 := Scalar.muli v194 c1_i32_148
  let v196 : BitVec 32 := Scalar.addi c0_i32_149 v195
  v196.toNat
def k0_dev12 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v220 : BitVec 32 := Scalar.xori v2 c1_i32_170
  let c1_i32_173 : BitVec 32 := 1#32
  let v221 : BitVec 32 := Scalar.muli v220 c1_i32_173
  let v222 : BitVec 32 := Scalar.addi c0_i32_174 v221
  v222.toNat
def k0_dev13 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_180 : BitVec 32 := 4#32
  let v232 : BitVec 32 := Scalar.xori v2 c4_i32_180
  let c1_i32_183 : BitVec 32 := 1#32
  let v233 : BitVec 32 := Scalar.muli v232 c1_i32_183
  let v234 : BitVec 32 := Scalar.addi c0_i32_184 v233
  v234.toNat
def k0_dev14 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_190 : BitVec 32 := 4#32
  let v244 : BitVec 32 := Scalar.xori v2 c4_i32_190
  let c1_i32_193 : BitVec 32 := 1#32
  let v245 : BitVec 32 := Scalar.muli v244 c1_i32_193
  let v246 : BitVec 32 := Scalar.addi c0_i32_194 v245
  v246.toNat
def k0_dev15 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_200 : BitVec 32 := 1#32
  let v256 : BitVec 32 := Scalar.xori v2 c1_i32_200
  let c1_i32_203 : BitVec 32 := 1#32
  let v257 : BitVec 32 := Scalar.muli v256 c1_i32_203
  let v258 : BitVec 32 := Scalar.addi c0_i32_204 v257
  v258.toNat
def k0_dev16 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_210 : BitVec 32 := 1#32
  let v268 : BitVec 32 := Scalar.xori v2 c1_i32_210
  let c1_i32_213 : BitVec 32 := 1#32
  let v269 : BitVec 32 := Scalar.muli v268 c1_i32_213
  let v270 : BitVec 32 := Scalar.addi c0_i32_214 v269
  v270.toNat
def k0_dev17 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_220 : BitVec 32 := 3#32
  let v280 : BitVec 32 := Scalar.xori v2 c3_i32_220
  let c1_i32_223 : BitVec 32 := 1#32
  let v281 : BitVec 32 := Scalar.muli v280 c1_i32_223
  let v282 : BitVec 32 := Scalar.addi c0_i32_224 v281
  v282.toNat
def k0_dev18 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_230 : BitVec 32 := 3#32
  let v292 : BitVec 32 := Scalar.xori v2 c3_i32_230
  let c1_i32_233 : BitVec 32 := 1#32
  let v293 : BitVec 32 := Scalar.muli v292 c1_i32_233
  let v294 : BitVec 32 := Scalar.addi c0_i32_234 v293
  v294.toNat
def k0_off7 (d0 : Dev nD) (c1_i32_239 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v303 : BitVec 32 := Scalar.xori v2 c1_i32_239
  let v304 : Index := Scalar.indexCast v303
  let c0_240 : Index := 0#32
  let c0_241 : Index := 0#32
  ![v304.toNat, 0, 0]
def k0_off8 (d0 : Dev nD) (c1_i32_239 : BitVec 32) (c0_i32_246 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v303 : BitVec 32 := Scalar.xori v2 c1_i32_239
  let c512_i32_245 : BitVec 32 := 512#32
  let v313 : BitVec 32 := Scalar.muli v303 c512_i32_245
  let v314 : BitVec 32 := Scalar.addi v313 c0_i32_246
  let v315 : Index := Scalar.indexCast v314
  let c0_247 : Index := 0#32
  ![v315.toNat, 0]
def k0_off8_at (r : Fin 2) : BitVec 32 × BitVec 32 :=
  if r.val < 1 then
    (1#32, 0#32)
  else
    (3#32, 176#32)
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v331 : BitVec 32 := Scalar.xori v2 c4_i32_257
  let v332 : Index := Scalar.indexCast v331
  let c0_258 : Index := 0#32
  let c0_259 : Index := 0#32
  ![v332.toNat, 0, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v331 : BitVec 32 := Scalar.xori v2 c4_i32_257
  let c512_i32_263 : BitVec 32 := 512#32
  let v341 : BitVec 32 := Scalar.muli v331 c512_i32_263
  let c352_i32_264 : BitVec 32 := 352#32
  let v342 : BitVec 32 := Scalar.addi v341 c352_i32_264
  let v343 : Index := Scalar.indexCast v342
  let c0_265 : Index := 0#32
  ![v343.toNat, 0]
def k0_dev19 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_297 : BitVec 32 := 4#32
  let v374 : BitVec 32 := Scalar.xori v2 c4_i32_297
  let c1_i32_299 : BitVec 32 := 1#32
  let v375 : BitVec 32 := Scalar.muli v374 c1_i32_299
  let v376 : BitVec 32 := Scalar.addi c0_i32_300 v375
  v376.toNat
def k0_dev20 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_306 : BitVec 32 := 4#32
  let v386 : BitVec 32 := Scalar.xori v2 c4_i32_306
  let c1_i32_308 : BitVec 32 := 1#32
  let v387 : BitVec 32 := Scalar.muli v386 c1_i32_308
  let v388 : BitVec 32 := Scalar.addi c0_i32_309 v387
  v388.toNat
def k0_dev21 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_345 : BitVec 32 := 1#32
  let v426 : BitVec 32 := Scalar.xori v2 c1_i32_345
  let c1_i32_348 : BitVec 32 := 1#32
  let v427 : BitVec 32 := Scalar.muli v426 c1_i32_348
  let v428 : BitVec 32 := Scalar.addi c0_i32_349 v427
  v428.toNat
def k0_dev22 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_354 : BitVec 32 := 1#32
  let v438 : BitVec 32 := Scalar.xori v2 c1_i32_354
  let c1_i32_357 : BitVec 32 := 1#32
  let v439 : BitVec 32 := Scalar.muli v438 c1_i32_357
  let v440 : BitVec 32 := Scalar.addi c0_i32_358 v439
  v440.toNat
def k0_dev23 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_394 : BitVec 32 := 3#32
  let v478 : BitVec 32 := Scalar.xori v2 c3_i32_394
  let c1_i32_397 : BitVec 32 := 1#32
  let v479 : BitVec 32 := Scalar.muli v478 c1_i32_397
  let v480 : BitVec 32 := Scalar.addi c0_i32_398 v479
  v480.toNat
def k0_dev24 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_404 : BitVec 32 := 3#32
  let v490 : BitVec 32 := Scalar.xori v2 c3_i32_404
  let c1_i32_407 : BitVec 32 := 1#32
  let v491 : BitVec 32 := Scalar.muli v490 c1_i32_407
  let v492 : BitVec 32 := Scalar.addi c0_i32_408 v491
  v492.toNat
def k0_off11 (d0 : Dev nD) (c3_i32_413 : BitVec 32) (c0_i32_414 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.xori v2 c3_i32_413
  let v502 : BitVec 32 := Scalar.xori v501 c0_i32_414
  let v503 : Index := Scalar.indexCast v502
  let c0_415 : Index := 0#32
  let c0_416 : Index := 0#32
  ![v503.toNat, 0, 0]
def k0_off11_at (r : Fin 10) : BitVec 32 × BitVec 32 :=
  if r.val < 5 then
    if r.val < 2 then
      if r.val < 1 then
        (3#32, 0#32)
      else
        (3#32, 1#32)
    else
      if r.val < 3 then
        (4#32, 0#32)
      else
        if r.val < 4 then
          (4#32, 3#32)
        else
          (1#32, 0#32)
  else
    if r.val < 7 then
      if r.val < 6 then
        (1#32, 3#32)
      else
        (4#32, 1#32)
    else
      if r.val < 8 then
        (1#32, 4#32)
      else
        if r.val < 9 then
          (4#32, 2#32)
        else
          (1#32, 7#32)
def k0_off12 (d0 : Dev nD) (c3_i32_413 : BitVec 32) (c0_i32_414 : BitVec 32) (c0_i32_421 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.xori v2 c3_i32_413
  let v502 : BitVec 32 := Scalar.xori v501 c0_i32_414
  let c512_i32_420 : BitVec 32 := 512#32
  let v512 : BitVec 32 := Scalar.muli v502 c512_i32_420
  let v513 : BitVec 32 := Scalar.addi v512 c0_i32_421
  let v514 : Index := Scalar.indexCast v513
  let c0_422 : Index := 0#32
  ![v514.toNat, 0]
def k0_off12_at (r : Fin 12) : BitVec 32 × BitVec 32 × BitVec 32 :=
  if r.val < 6 then
    if r.val < 3 then
      if r.val < 1 then
        (3#32, 0#32, 0#32)
      else
        if r.val < 2 then
          (3#32, 1#32, 0#32)
        else
          (4#32, 0#32, 176#32)
    else
      if r.val < 4 then
        (4#32, 3#32, 176#32)
      else
        if r.val < 5 then
          (1#32, 0#32, 176#32)
        else
          (4#32, 0#32, 0#32)
  else
    if r.val < 9 then
      if r.val < 7 then
        (1#32, 3#32, 176#32)
      else
        if r.val < 8 then
          (4#32, 1#32, 0#32)
        else
          (1#32, 4#32, 176#32)
    else
      if r.val < 10 then
        (4#32, 2#32, 0#32)
      else
        if r.val < 11 then
          (1#32, 7#32, 176#32)
        else
          (4#32, 3#32, 0#32)
def k0_off13 (d0 : Dev nD) (c1_i32_453 : BitVec 32) (c0_i32_454 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v561 : BitVec 32 := Scalar.xori v2 c1_i32_453
  let v562 : BitVec 32 := Scalar.xori v561 c0_i32_454
  let v563 : Index := Scalar.indexCast v562
  let c0_455 : Index := 0#32
  let c0_456 : Index := 0#32
  ![v563.toNat, 0, 0]
def k0_off13_at (r : Fin 6) : BitVec 32 × BitVec 32 :=
  if r.val < 3 then
    if r.val < 1 then
      (1#32, 0#32)
    else
      if r.val < 2 then
        (1#32, 4#32)
      else
        (3#32, 0#32)
  else
    if r.val < 4 then
      (3#32, 4#32)
    else
      if r.val < 5 then
        (3#32, 1#32)
      else
        (3#32, 5#32)
def k0_off14 (d0 : Dev nD) (c1_i32_453 : BitVec 32) (c0_i32_454 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v561 : BitVec 32 := Scalar.xori v2 c1_i32_453
  let v562 : BitVec 32 := Scalar.xori v561 c0_i32_454
  let c512_i32_460 : BitVec 32 := 512#32
  let v572 : BitVec 32 := Scalar.muli v562 c512_i32_460
  let c352_i32_461 : BitVec 32 := 352#32
  let v573 : BitVec 32 := Scalar.addi v572 c352_i32_461
  let v574 : Index := Scalar.indexCast v573
  let c0_462 : Index := 0#32
  ![v574.toNat, 0]
def k0_off14_at (r : Fin 6) : BitVec 32 × BitVec 32 :=
  if r.val < 3 then
    if r.val < 1 then
      (1#32, 0#32)
    else
      if r.val < 2 then
        (1#32, 4#32)
      else
        (3#32, 0#32)
  else
    if r.val < 4 then
      (3#32, 4#32)
    else
      if r.val < 5 then
        (3#32, 1#32)
      else
        (3#32, 5#32)
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "hi" => some ⊤
  | "lo" => some ⊥
  | _ => none

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdealProto.lean ====
/-
The exchange protocol of the kernel, written down once: who sends which block to whom, under which semaphore,
what each transfer carries, and what every wait gives back.

Three streams `s` (row bands 0–175, 176–351, 352–511 of a device's block of `x`) run the same seven transfers
`i`, each with its own order of the cube's axes. A transfer is a pair `(s, i)`; device `c` sends its slot
`c ^ src` to device `c ^ peer`, which keeps it in the slot of the same number.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The cube: device numbers under exclusive or -/

/-- The device whose number differs from `c`'s in the bits of `a`. -/
def xr (c a : Fin 8) : Fin 8 := ⟨c.val ^^^ a.val, Nat.xor_lt_two_pow (n := 3) c.isLt a.isLt⟩

theorem xr_zero (c : Fin 8) : xr c 0 = c := by revert c; decide
theorem xr_xr (c a : Fin 8) : xr (xr c a) a = c := by revert c a; decide
theorem xr_cancel (c k : Fin 8) : xr c (xr c k) = k := by revert c k; decide
theorem xr_assoc (c a b : Fin 8) : xr (xr c a) b = xr c (xr a b) := by revert c a b; decide
theorem xr_inj {c a b : Fin 8} (h : xr c a = xr c b) : a = b := by revert c a b; decide

/-- A transfer: its stream and its number in the stream. -/
abbrev T : Type := Fin 3 × Fin 7

/-- The bits by which the receiver of a transfer differs from the sender. -/
def mE (t : T) : Fin 8 := (![![1,3,3,4,4,4,4], ![3,4,4,1,1,1,1], ![4,1,1,3,3,3,3]] : Fin 3 → Fin 7 → Fin 8) t.1 t.2
/-- The bits by which the slot sent differs from the sender. -/
def mC (t : T) : Fin 8 := (![![0,0,1,0,1,2,3], ![0,0,3,0,3,4,7], ![0,0,4,0,4,1,5]] : Fin 3 → Fin 7 → Fin 8) t.1 t.2
/-- The bits by which the slot received differs from the receiver. -/
def mM (t : T) : Fin 8 := xr (mE t) (mC t)
/-- Which quarter share of the slot the transfer reads. -/
def pc (t : T) : Fin 4 := (![1,2,1,3,2,1,1] : Fin 7 → Fin 4) t.2

theorem xr_mM (c : Fin 8) (t : T) : xr (xr c (mE t)) (mM t) = xr c (mC t) := by
  revert c t; decide

/-- The three neighbours of a device, in the order of the barrier's signals. -/
def nb (e : Fin 3) : Fin 8 := (![1, 3, 4] : Fin 3 → Fin 8) e
/-- The neighbour a transfer goes to. -/
def eT (t : T) : Fin 3 := (![![0,1,1,2,2,2,2], ![1,2,2,0,0,0,0], ![2,0,0,1,1,1,1]] : Fin 3 → Fin 7 → Fin 3) t.1 t.2
theorem nb_eT (t : T) : nb (eT t) = mE t := by revert t; decide

/-! ## Shares: a slot is held in four pieces, piece 0 read by the products, the others by the transfers -/

def sh (j : Fin 4) : PosShare TreeShare := match j with
  | 0 => fullShare.left
  | 1 => fullShare.right.left
  | 2 => fullShare.right.right.left
  | 3 => fullShare.right.right.right

/-! ## Buffers and slots -/

/-- The rows of a stream and where they begin in a device's block. -/
def rows (s : Fin 3) : Nat := match s with | 0 => 176 | 1 => 176 | 2 => 160
def offs (s : Fin 3) : Nat := match s with | 0 => 0 | 1 => 176 | 2 => 352

abbrev SB (s : Fin 3) : Shape := ⟨3, ![8, rows s, 4096]⟩
abbrev SR (s : Fin 3) : Shape := ⟨2, ![rows s, 4096]⟩

/-- The stream's buffer of eight slots. -/
def bufM (s : Fin 3) : Memref sig .tc .vmem (SB s) .fp8e4m3 := match s with
  | 0 => Memref.whole cc0_scratch0
  | 1 => Memref.whole cc0_scratch1
  | 2 => Memref.whole cc0_scratch2

theorem slot_inb (s : Fin 3) (k : Fin 8) : ∀ a, (![k.val, 0, 0] : Fin 3 → Nat) a + (![1, rows s, 4096] : Fin 3 → Nat) a ≤ (SB s).size a := by
  revert s k; decide

/-- Slot `k` as a rectangle of the buffer. -/
def slotR (s : Fin 3) (k : Fin 8) : Rect (SB s) := Rect.unit (s := SB s) ![k.val, 0, 0] ![1, rows s, 4096] (slot_inb s k)

theorem slot_sq (s : Fin 3) (k : Fin 8) : (slotR s k).shape.Squeezes (SR s) := by
  match s with
  | 0 => exact squeezes_S1x176x4096_S176x4096
  | 1 => exact squeezes_S1x176x4096_S176x4096
  | 2 => exact squeezes_S1x160x4096_S160x4096

/-- Slot `k` as the memref the transfers name. -/
def slotM (s : Fin 3) (k : Fin 8) : Memref sig .tc .vmem (SR s) .fp8e4m3 :=
  ((bufM s).slice (slotR s k) (fun _ => rfl)).squeeze (SR s) (slot_sq s k)

/-- The buffers are whole: every element is a view element. -/
theorem buf_surj (s : Fin 3) (i : (bufM s).view.ref.ty.Idx) : ∃ x : (SB s).Idx, (bufM s).view.emb x = i := by
  match s with
  | 0 => exact ⟨i, rfl⟩
  | 1 => exact ⟨i, rfl⟩
  | 2 => exact ⟨i, rfl⟩

/-- A slot's elements are the rectangle's. -/
theorem slot_set (s : Fin 3) (k : Fin 8) : (slotM s k).view.set = ((bufM s).access (slotR s k)).set := View.set_reshape _ _

theorem mem_slotR (s : Fin 3) (k : Fin 8) (x : (SB s).Idx) : x ∈ (slotR s k).set ↔ x 0 = k := by
  refine Rect.mem_set_unit.trans ⟨fun h => ?_, fun h a => ?_⟩
  · have h0 := h 0
    exact Fin.ext (Nat.le_antisymm (Nat.lt_succ_iff.mp h0.2) h0.1)
  · subst h
    match a with
    | 0 => exact ⟨Nat.le_refl _, Nat.lt_succ_self _⟩
    | 1 => exact ⟨Nat.zero_le _, by simpa using (x 1).isLt⟩
    | 2 => exact ⟨Nat.zero_le _, by simpa using (x 2).isLt⟩

/-- An element lies in slot `k` exactly if its first coordinate is `k`. -/
theorem mem_slot (s : Fin 3) (k : Fin 8) (x : (SB s).Idx) : (bufM s).view.emb x ∈ (slotM s k).view.set ↔ x 0 = k := by
  have h : (slotM s k).view.set = (slotR s k).set.map (bufM s).view.emb := (slot_set s k).trans (View.set_slice _ _)
  rw [h]
  exact (Finset.mem_map' (bufM s).view.emb).trans (mem_slotR s k x)

/-! ## Contents -/

/-- Device `k`'s staged block of `x`, `w` and the two scales. -/
def xstg (k : Dev nD) : (cc0_stg0_0 : Ref sig .tc).ty.Contents (Elt F) :=
  (win0_0.blk (0 : Fin 1)).view.read (Elt F) ((s₀ m ρ).mem ((k : Thread nD τ).loc main_arg0))
def wstg (k : Dev nD) : (cc0_stg1_0 : Ref sig .tc).ty.Contents (Elt F) :=
  (win0_1.blk (0 : Fin 1)).view.read (Elt F) ((s₀ m ρ).mem ((k : Thread nD τ).loc main_arg1))
def sxstg (k : Dev nD) : (cc0_stg2_0 : Ref sig .tc).ty.Contents (Elt F) :=
  (win0_2.blk (0 : Fin 1)).view.read (Elt F) ((s₀ m ρ).mem ((k : Thread nD τ).loc main_arg2))
def swstg (k : Dev nD) : (cc0_stg3_0 : Ref sig .tc).ty.Contents (Elt F) :=
  (win0_3.blk (0 : Fin 1)).view.read (Elt F) ((s₀ m ρ).mem ((k : Thread nD τ).loc main_arg3))

/-- What device `k` writes into its own slot of stream `s`: its band of rows. -/
def blk (s : Fin 3) (k : Fin 8) : (slotR s k).shape.Idx → Elt F .fp8e4m3 := match s with
  | 0 => k0_pay3 ((Memref.whole cc0_stg0_0 : Memref sig .tc .vmem S512x4096 .fp8e4m3).view.readAt (Elt F) (Rect.unit (s := S512x4096) ![0, 0] S176x4096.size inb_S512x4096_S176x4096_0_0).toLoadRect (xstg m ρ k))
  | 1 => k0_pay4 ((Memref.whole cc0_stg0_0 : Memref sig .tc .vmem S512x4096 .fp8e4m3).view.readAt (Elt F) (Rect.unit (s := S512x4096) ![176, 0] S176x4096.size inb_S512x4096_S176x4096_176_0).toLoadRect (xstg m ρ k))
  | 2 => k0_pay5 ((Memref.whole cc0_stg0_0 : Memref sig .tc .vmem S512x4096 .fp8e4m3).view.readAt (Elt F) (Rect.unit (s := S512x4096) ![352, 0] S160x4096.size inb_S512x4096_S160x4096_352_0).toLoadRect (xstg m ρ k))

/-- The place of an element inside its slot. -/
def inSlot (s : Fin 3) (k : Fin 8) (x : (SB s).Idx) : (slotR s k).shape.Idx := fun a => match a with
  | 0 => ⟨0, Nat.one_pos⟩
  | 1 => x 1
  | 2 => x 2

/-- The full contents of stream `s`'s buffer, the same on every device: slot `k` holds device `k`'s band. -/
def gval (s : Fin 3) (x : (SB s).Idx) : Elt F .fp8e4m3 := blk m ρ s (x 0) (inSlot s (x 0) x)

theorem inSlot_emb (s : Fin 3) (k : Fin 8) (y : (slotR s k).shape.Idx) (k' : Fin 8) (hk : k' = k) : inSlot s k' ((slotR s k).emb y) = hk ▸ y := by
  subst hk
  funext a
  match a with
  | 0 => exact Subsingleton.elim (α := Fin 1) _ _
  | 1 => exact Fin.ext (show 0 + 1 * (y 1).val = (y 1).val by omega)
  | 2 => exact Fin.ext (show 0 + 1 * (y 2).val = (y 2).val by omega)

theorem emb_zero (s : Fin 3) (k : Fin 8) (y : (slotR s k).shape.Idx) : (slotR s k).emb y 0 = k :=
  (mem_slotR s k _).mp ((slotR s k).idx_mem y)

theorem gval_emb (s : Fin 3) (k : Fin 8) (y : (slotR s k).shape.Idx) : gval m ρ s ((slotR s k).emb y) = blk m ρ s k y := by
  unfold gval
  have h := emb_zero s k y
  have h2 := inSlot_emb s k y _ h
  revert h2
  generalize inSlot s ((slotR s k).emb y 0) ((slotR s k).emb y) = z
  revert h z
  generalize ((slotR s k).emb y 0) = k'
  intro h z h2
  subst h
  exact congrArg _ h2

/-- The buffer at those contents. -/
def G (s : Fin 3) : (bufM s).view.ref.ty.Contents (Elt F) :=
  (bufM s).view.write (Elt F) (m ((bufM s).view.loc ((0 : Dev nD) : Thread nD τ))) (gval m ρ s) Finset.univ

/-- Reading slot `k` gives device `k`'s band. -/
theorem read_slot (s : Fin 3) (k : Fin 8) : ((bufM s).access (slotR s k)).read (Elt F) (G m ρ s) = blk m ρ s k := by
  have h : (bufM s).view.read (Elt F) (G m ρ s) = gval m ρ s := View.read_write_univ _ _
  funext y
  have := congrFun h ((slotR s k).emb y)
  exact this.trans (gval_emb m ρ s k y)

/-- Writing the band of device `k` into slot `k` makes the slot agree with `G`. -/
theorem write_slot (s : Fin 3) (k : Fin 8) (f : (bufM s).view.ref.ty.Contents (Elt F)) :
    ∀ i ∈ (slotM s k).view.set, ((bufM s).access (slotR s k)).write (Elt F) f (blk m ρ s k) Finset.univ i = G m ρ s i := by
  intro i hi
  rw [slot_set] at hi
  obtain ⟨y, -, rfl⟩ := Finset.mem_map.mp hi
  refine (View.write_emb_of_mem (v := (bufM s).access (slotR s k)) f _ (Finset.mem_univ y)).trans ?_
  rw [← gval_emb]
  exact (View.write_emb_of_mem (v := (bufM s).view) _ (gval m ρ s) (Finset.mem_univ ((slotR s k).emb y))).symm

/-- A view written with what it reads agrees with what was read, on the view's elements. -/
theorem write_read_agree {κ : Kind} {sp : Space} {S : Shape} {e : EltTy} (v : Memref sig κ sp S e) (fs fd : v.view.ref.ty.Contents (Elt F)) :
    ∀ i ∈ v.view.set, v.view.write (Elt F) fd (v.view.read (Elt F) fs) Finset.univ i = fs i := by
  intro i hi
  obtain ⟨y, -, rfl⟩ := Finset.mem_map.mp hi
  refine (View.write_emb_of_mem (v := v.view) fd _ (Finset.mem_univ y)).trans ?_
  rw [View.read_apply]
  simp

theorem storable_pts (ℓ : Loc nD τ sig) (I : Finset (Idx ℓ)) (q : PosShare TreeShare) (f : Buf (Elt F) ℓ) :
    BI.Storable (upEmb : UEmb _ 𝕄) (ℓ ↦[I]{q} f : sProp 𝕄) := inferInstance

/-- Slot `k` of stream `s` on device `c`, at share `q` and contents `f`. -/
def slotPts (c : Dev nD) (s : Fin 3) (k : Fin 8) (q : PosShare TreeShare) (f : (bufM s).view.ref.ty.Contents (Elt F)) : sProp 𝕄 :=
  (slotM s k).view.loc (c : Thread nD τ) ↦[(slotM s k).view.set]{q} f

instance slotPts_storable (c : Dev nD) (s : Fin 3) (k : Fin 8) (q : PosShare TreeShare) (f) :
    BI.Storable (upEmb : UEmb _ 𝕄) (slotPts (F := F) c s k q f) :=
  storable_pts _ _ _ _

/-! ## Semaphores and cells -/

abbrev barS : Sem sig := (SemArray.scalar (sig.barrier 0 rfl) : Sems sig S_).sem
def sendS (t : T) : DmaSem sig := ⟨5 + 14 * t.1.val + t.2.val, by show _ < 47; omega⟩
def recvS (t : T) : DmaSem sig := ⟨12 + 14 * t.1.val + t.2.val, by show _ < 47; omega⟩

abbrev barCell (c : Dev nD) : GSem nD τ sig := ((c : Thread nD τ), .reg barS)
abbrev sendCell (c : Dev nD) (t : T) : GSem nD τ sig := ((c : Thread nD τ), .dma (sendS t))
abbrev recvCell (c : Dev nD) (t : T) : GSem nD τ sig := ((c : Thread nD τ), .dma (recvS t))

/-- What a semaphore is for: `none` the staging's, `some none` the barrier, `some (some (false, t))` transfer `t`'s
    send semaphore, `some (some (true, t))` its receive semaphore. -/
def decD (q : DmaSem sig) : Option (Option (Bool × T)) :=
  if q.val < 5 then none else
    some (some (decide (7 ≤ (q.val - 5) % 14), (⟨(q.val - 5) / 14 % 3, Nat.mod_lt _ (by decide)⟩, ⟨(q.val - 5) % 7, Nat.mod_lt _ (by decide)⟩)))
def dec (sm : SemLoc sig) : Option (Option (Bool × T)) := match sm with
  | .reg _ => some none
  | .dma q => decD q

theorem dec_bar : dec (.reg barS) = some none := rfl
theorem dec_send (t : T) : dec (.dma (sendS t)) = some (some (false, t)) := by
  show decD (sendS t) = _
  revert t; decide
theorem dec_recv (t : T) : dec (.dma (recvS t)) = some (some (true, t)) := by
  show decD (recvS t) = _
  revert t; decide

/-- The credit of one transfer of stream `s`. -/
def N (s : Fin 3) : ℕ := (slotM s 0).view.dmaCredit
theorem N_pos (s : Fin 3) : 0 < N s := View.dmaCredit_pos _ (by revert s; decide)
theorem credit_eq (s : Fin 3) (k : Fin 8) : (slotM s k).view.dmaCredit = N s := rfl

/-! ## The schedule: one round -/

/-- The barrier signal of device `d`'s neighbour across `nb e`: the slots of that neighbour which `d` will fill. -/
def barPay (d : Dev nD) (e : Fin 3) : sProp 𝕄 :=
  bigSep (Finset.univ.filter fun t : T => eT t = e) fun t => iprop(∃ f, slotPts (xr d (nb e)) t.1 (xr d (mC t)) fullShare f)
/-- A send semaphore gives the share of the slot it read back. -/
def sendPay (d : Dev nD) (t : T) : sProp 𝕄 := slotPts d t.1 (xr d (mC t)) (sh (pc t)) (G m ρ t.1)
/-- A receive semaphore gives the slot filled. -/
def recvPay (d : Dev nD) (t : T) : sProp 𝕄 := slotPts d t.1 (xr d (mM t)) fullShare (G m ρ t.1)

def Rd : Rounds.Schedule (GSem nD τ sig) (Fin 3) 𝕄 where
  duties g r := if r = 0 ∧ g.1.2 = .tc then (match dec g.2 with | none => ∅ | some none => Finset.univ | some (some _) => {0}) else ∅
  unitless _ := False
  amount g _ _ := match dec g.2 with | some (some (_, t)) => N t.1 | _ => 1
  payload g _ d := match dec g.2 with
    | some none => barPay g.1.1 d
    | some (some (false, t)) => sendPay m ρ g.1.1 t
    | some (some (true, t)) => recvPay m ρ g.1.1 t
    | none => iprop(emp)
  amount_pos g _ _ _ := by
    rcases dec g.2 with _ | _ | ⟨b, t⟩
    · exact Nat.one_pos
    · exact Nat.one_pos
    · exact N_pos t.1

instance Rd_payload_storable (g : GSem nD τ sig) (r : ℕ) (d : Fin 3) :
    BI.Storable (upEmb : UEmb _ 𝕄) ((Rd (F := F) m ρ).payload g r d) := by
  show BI.Storable upEmb (match dec g.2 with
    | some none => barPay g.1.1 d
    | some (some (false, t)) => sendPay m ρ g.1.1 t
    | some (some (true, t)) => recvPay m ρ g.1.1 t
    | none => iprop(emp))
  rcases dec g.2 with _ | _ | ⟨_ | _, t⟩
  · dsimp only; infer_instance
  · dsimp only; unfold barPay; infer_instance
  · dsimp only; unfold sendPay; infer_instance
  · dsimp only; unfold recvPay; infer_instance

section Sched
variable (c : Dev nD) (t : T)

theorem duties_bar : (Rd (F := F) m ρ).duties (barCell c) 0 = Finset.univ := by dsimp only [Rd]; rw [if_pos ⟨rfl, rfl⟩, dec_bar]
theorem duties_send : (Rd (F := F) m ρ).duties (sendCell c t) 0 = {0} := by dsimp only [Rd]; rw [if_pos ⟨rfl, rfl⟩, dec_send]
theorem duties_recv : (Rd (F := F) m ρ).duties (recvCell c t) 0 = {0} := by dsimp only [Rd]; rw [if_pos ⟨rfl, rfl⟩, dec_recv]
theorem duties_later (g : GSem nD τ sig) : ∀ r, 1 ≤ r → (Rd (F := F) m ρ).duties g r = ∅ :=
  fun r hr => by dsimp only [Rd]; exact if_neg fun h => by omega

theorem amount_bar (d : Fin 3) : (Rd (F := F) m ρ).amount (barCell c) 0 d = 1 := by dsimp only [Rd]; rw [dec_bar]
theorem amount_send (d : Fin 3) : (Rd (F := F) m ρ).amount (sendCell c t) 0 d = N t.1 := by dsimp only [Rd]; rw [dec_send]
theorem amount_recv (d : Fin 3) : (Rd (F := F) m ρ).amount (recvCell c t) 0 d = N t.1 := by dsimp only [Rd]; rw [dec_recv]

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c t) 0 = N t.1 := by
  unfold Schedule.expect Schedule.amountOf; rw [duties_send, Finset.sum_singleton, amount_send]
theorem expect_recv : (Rd (F := F) m ρ).expect (recvCell c t) 0 = N t.1 := by
  unfold Schedule.expect Schedule.amountOf; rw [duties_recv, Finset.sum_singleton, amount_recv]

theorem payload_bar (e : Fin 3) : (Rd (F := F) m ρ).payload (barCell c) 0 e = barPay c e := by dsimp only [Rd]; rw [dec_bar]
theorem payload_send (d : Fin 3) : (Rd (F := F) m ρ).payload (sendCell c t) 0 d = sendPay m ρ c t := by dsimp only [Rd]; rw [dec_send]
theorem payload_recv (d : Fin 3) : (Rd (F := F) m ρ).payload (recvCell c t) 0 d = recvPay m ρ c t := by dsimp only [Rd]; rw [dec_recv]

theorem rest_bar : bigSep ((Rd (F := F) m ρ).duties (barCell c) 0 \ ∅) (fun d => (Rd (F := F) m ρ).payload (barCell c) 0 d) = bigSep Finset.univ (fun e => barPay c e) := by
  rw [Finset.sdiff_empty, duties_bar]; exact bigSep_congr fun e _ => payload_bar m ρ c e
theorem rest_send : bigSep ((Rd (F := F) m ρ).duties (sendCell c t) 0 \ ∅) (fun d => (Rd (F := F) m ρ).payload (sendCell c t) 0 d) = sendPay m ρ c t := by
  rw [Finset.sdiff_empty, duties_send, bigSep_singleton, payload_send]
theorem rest_recv : bigSep ((Rd (F := F) m ρ).duties (recvCell c t) 0 \ ∅) (fun d => (Rd (F := F) m ρ).payload (recvCell c t) 0 d) = recvPay m ρ c t := by
  rw [Finset.sdiff_empty, duties_recv, bigSep_singleton, payload_recv]

end Sched

/-! ## Levels and what is owed -/

/-- The stage of a transfer: the first of a stream, the second and third, the rest. -/
def lvT (t : T) : ℕ := (![2, 3, 3, 4, 4, 4, 4] : Fin 7 → ℕ) t.2

def L (g : GSem nD τ sig) : Finset Unit := if g.1.2 = .tc then {()} else ∅
/-- Barrier cells at level 1, receive cells by stage above them, everything else at 0. -/
def lv (g : GSem nD τ sig) (_ : Unit) : ℕ := match dec g.2 with | some none => 1 | some (some (true, t)) => lvT t | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [dec_bar]
theorem lv_send (c : Dev nD) (t : T) (u : Unit) : lv (sendCell c t) u = 0 := by unfold lv; rw [dec_send]
theorem lv_recv (c : Dev nD) (t : T) (u : Unit) : lv (recvCell c t) u = lvT t := by unfold lv; rw [dec_recv]

/-- What device `c` owes for the transfers it has not started (`p t`): the credit of their receive cells. -/
def owe (c : Dev nD) (p : T → Bool) : CellTallies nD τ sig Unit := ∑ t : T, if p t then tallyAt (recvCell (xr c (mE t)) t) () (N t.1) else 0

/-- Starting one of them discharges its summand. -/
theorem owe_take (c : Dev nD) (p : T → Bool) (t : T) (h : p t = true) :
    owe c p = owe c (Function.update p t false) + tallyAt (recvCell (xr c (mE t)) t) () (N t.1) := by
  unfold owe
  rw [← Finset.sum_erase_add _ _ (Finset.mem_univ t), if_pos h, ← Finset.sum_erase_add (Finset.univ : Finset T) (fun u => if (Function.update p t false) u = true then tallyAt (recvCell (xr c (mE u)) u) () (N u.1) else (0 : CellTallies nD τ sig Unit)) (Finset.mem_univ t)]
  rw [Function.update_self, if_neg Bool.false_ne_true, add_zero]
  congr 1
  refine Finset.sum_congr rfl fun u hu => ?_
  rw [Function.update_of_ne (Finset.ne_of_mem_erase hu)]

theorem owe_none (c : Dev nD) (p : T → Bool) (h : ∀ t, p t = false) : owe c p = 0 :=
  Finset.sum_eq_zero fun t _ => by rw [h t]; rfl

theorem owe_pos {c : Dev nD} {p : T → Bool} {g : GSem nD τ sig} {u : Unit} (h : 0 < owe c p g u) :
    ∃ t, p t = true ∧ g = recvCell (xr c (mE t)) t := by
  by_contra hn
  have h0 : owe c p g u = 0 := by
    unfold owe
    rw [Finset.sum_apply, Finsupp.finset_sum_apply]
    refine Finset.sum_eq_zero fun t _ => ?_
    by_cases hp : p t = true
    · rw [if_pos hp, tallyAt_apply]
      exact if_neg fun h' => hn ⟨t, hp, h'.1⟩
    · rw [if_neg hp]; rfl
  omega

/-- A device may wait on a cell below every cell it still owes. -/
theorem mayWait (c : Dev nD) (sm : SemLoc sig) (p : T → Bool) (n : ℕ) (hn : lv ((c : Thread nD τ), sm) () ≤ n) (hp : ∀ t, p t = true → n < lvT t) :
    (levAts L lv : sProp 𝕄) ⊢ MayWait (c : Thread nD τ) sm () (owe c p) :=
  MayOwe.of_cut (L := L) (lev := lv) n (fun q hq => by rw [Finset.mem_singleton.mp hq, L_tc]; exact Finset.mem_singleton_self _)
    (fun g u hg => by obtain ⟨t, -, rfl⟩ := owe_pos hg; rw [L_tc]; exact Finset.mem_singleton_self _)
    (fun q hq => by rw [Finset.mem_singleton.mp hq]; exact hn)
    (fun g u hg => by obtain ⟨t, ht, rfl⟩ := owe_pos hg; rw [lv_recv]; exact hp t ht)

end Cert.KernelIdealProof

end
-- ==== Proof.KernelIdealState.lean ====
/-
The state of one device between two operations of the kernel: which transfers are unsent, in flight or finished,
which receives are still awaited, which slots are filled and which pieces of them are at hand, and which blocks of
the output are written. Each operation of the kernel is one step from such a state to the next.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program run by device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Families over a finite index, one member changed -/

section Fam
variable {M : Type} [URA M] {I V : Type} [Fintype I] [DecidableEq I]

/-- A family's member taken out, and put back at another value. -/
theorem fam_upd (Φ : I → V → sProp M) (h : I → V) (t : I) (v : V) :
    bigSep Finset.univ (fun u => Φ u (h u)) ⊢ iprop(Φ t (h t) ∗ (Φ t v -∗ bigSep Finset.univ (fun u => Φ u (Function.update h t v u)))) := by
  have h1 : bigSep Finset.univ (fun u => Φ u (h u)) = iprop(Φ t (h t) ∗ bigSep (Finset.univ.erase t) (fun u => Φ u (h u))) := bigSep_univ_split t
  have h2 : bigSep Finset.univ (fun u => Φ u (Function.update h t v u))
      = iprop(Φ t (Function.update h t v t) ∗ bigSep (Finset.univ.erase t) (fun u => Φ u (Function.update h t v u))) := bigSep_univ_split t
  rw [h1, h2]
  have he : bigSep (Finset.univ.erase t) (fun u => Φ u (Function.update h t v u)) = bigSep (Finset.univ.erase t) (fun u => Φ u (h u)) :=
    bigSep_congr fun u hu => by rw [Function.update_of_ne (Finset.ne_of_mem_erase hu)]
  rw [he, Function.update_self]
  iintro ⟨H, HR⟩
  isplitl [H]; · iexact H
  iintro H2
  isplitl [H2] <;> iassumption

/-- A family's member borrowed. -/
theorem fam_get (Φ : I → sProp M) (t : I) :
    bigSep Finset.univ Φ ⊢ iprop(Φ t ∗ (Φ t -∗ bigSep Finset.univ Φ)) := by
  have h1 : bigSep Finset.univ Φ = iprop(Φ t ∗ bigSep (Finset.univ.erase t) Φ) := bigSep_univ_split t
  rw [h1]
  iintro ⟨H, HR⟩
  isplitl [H]; · iexact H
  iintro H2
  isplitl [H2] <;> iassumption

end Fam

/-! ## The cells by index -/

/-- A cell of a device: `none` the barrier, `some (false, t)` a send cell, `some (true, t)` a receive cell. -/
abbrev CI : Type := Option (Bool × T)
def csem (i : CI) : SemLoc sig := match i with
  | none => .reg barS | some (false, t) => .dma (sendS t) | some (true, t) => .dma (recvS t)
abbrev kcell (ci : Dev nD × CI) : GSem nD τ sig := ((ci.1 : Thread nD τ), csem ci.2)

/-- Every cell's invariant, at the names `K`, and that it has reached round 0. -/
def records (K : Dev nD × CI → ℕ) : sProp 𝕄 :=
  bigSep Finset.univ fun ci : Dev nD × CI => iprop(cellInv ER (Rd m ρ) (K ci) (kcell ci) ∗ reached ER (kcell ci) 0)

instance records_persistent (K : Dev nD × CI → ℕ) : BI.Persistent (records m ρ K) := by unfold records; infer_instance

theorem records_at (K : Dev nD × CI → ℕ) (ci : Dev nD × CI) :
    records m ρ K ⊢ iprop(cellInv ER (Rd m ρ) (K ci) (kcell ci) ∗ reached ER (kcell ci) 0) := by
  unfold records
  exact bigSep_elim (Φ := fun ci : Dev nD × CI => iprop(cellInv ER (Rd m ρ) (K ci) (kcell ci) ∗ reached ER (kcell ci) 0)) (Finset.mem_univ ci)

/-! ## The output -/

abbrev outM : Memref sig .tc .vmem S4096x256 .f32 := Memref.whole cc0_stg4_0
abbrev w8M : Memref sig .tc .vmem S4096x256 .fp8e4m3 := Memref.whole cc0_scratch3
abbrev wM : Memref sig .tc .vmem S4096x256 .fp8e4m3 := Memref.whole cc0_stg1_0
abbrev xM : Memref sig .tc .vmem S512x4096 .fp8e4m3 := Memref.whole cc0_stg0_0
abbrev sxM : Memref sig .tc .smem S1 .f32 := Memref.whole cc0_stg2_0
abbrev swM : Memref sig .tc .smem S1 .f32 := Memref.whole cc0_stg3_0

abbrev r88 : Rect S4096x256 := Rect.unit (s := S4096x256) ![0, 0] S4096x256.size inb_S4096x256_S4096x256_0_0
abbrev rS : Rect S1 := Rect.unit (s := S1) ![0] S1.size inb_S1_S1_0

theorem out_inb (s : Fin 3) (k : Fin 8) : ∀ a, (![512 * k.val + offs s, 0] : Fin 2 → Nat) a + (![rows s, 256] : Fin 2 → Nat) a ≤ S4096x256.size a := by
  revert s k; decide
/-- The rows of the output that device `k`'s band `s` gives. -/
def outR (s : Fin 3) (k : Fin 8) : Rect S4096x256 := Rect.unit (s := S4096x256) ![512 * k.val + offs s, 0] ![rows s, 256] (out_inb s k)

/-- Which band and whose a row is of. -/
def own (x : S4096x256.Idx) : Fin 3 × Fin 8 :=
  (if (x 0).val % 512 < 176 then 0 else if (x 0).val % 512 < 352 then 1 else 2, ⟨(x 0).val / 512, by have h : (x 0).val < 4096 := (x 0).isLt; omega⟩)

theorem rows_pos (s : Fin 3) : 0 < rows s := by revert s; decide

theorem mem_outR (s : Fin 3) (k : Fin 8) (x : S4096x256.Idx) : x ∈ (outR s k).set ↔ own x = (s, k) := by
  have hx : (x 0).val < 4096 := (x 0).isLt
  have hy : (x 1).val < 256 := (x 1).isLt
  have key : (512 * k.val + offs s ≤ (x 0).val ∧ (x 0).val < 512 * k.val + offs s + rows s) ↔ own x = (s, k) := by
    have hk : ((⟨(x 0).val / 512, by omega⟩ : Fin 8) = k) ↔ (x 0).val / 512 = k.val := ⟨fun h => congrArg Fin.val h, fun h => Fin.ext h⟩
    unfold own
    rw [Prod.mk.injEq, hk]
    have h0 : s = 0 ∨ s = 1 ∨ s = 2 := by revert s; decide
    rcases h0 with rfl | rfl | rfl
    · show (512 * k.val + 0 ≤ _ ∧ _ < 512 * k.val + 0 + 176) ↔ _
      split
      · simp; omega
      · split <;> simp <;> omega
    · show (512 * k.val + 176 ≤ _ ∧ _ < 512 * k.val + 176 + 176) ↔ _
      split
      · simp; omega
      · split <;> simp <;> omega
    · show (512 * k.val + 352 ≤ _ ∧ _ < 512 * k.val + 352 + 160) ↔ _
      split
      · simp; omega
      · split <;> simp <;> omega
  refine Rect.mem_set_unit.trans ⟨fun h => key.mp (h 0), fun h a => ?_⟩
  match a with
  | 0 => exact key.mpr h
  | 1 => exact ⟨Nat.zero_le _, by show (x 1).val < 0 + 256; omega⟩

/-- The scale device `c` reads, and its copy of `w`. -/
def scl (c : Dev nD) : F .f32 :=
  k0_pay2 ((sxM.access rS).read (Elt F) (sxstg m ρ c) (Shape.Idx.first (numel1_S1.symm ▸ Nat.one_pos)))
    ((swM.access rS).read (Elt F) (swstg m ρ c) (Shape.Idx.first (numel1_S1.symm ▸ Nat.one_pos)))
def w8v (c : Dev nD) : Vec F S4096x256 .fp8e4m3 := k0_pay6 (wM.view.readAt (Elt F) r88.toLoadRect (wstg m ρ c))

/-- The block of the output device `c` computes from device `k`'s band `s`. -/
def cmpv (c : Dev nD) (s : Fin 3) (k : Fin 8) : (outR s k).shape.Idx → Elt F .f32 := match s with
  | 0 => k0_pay7 (scl m ρ c) (blk m ρ 0 k) (w8v m ρ c)
  | 1 => k0_pay8 (scl m ρ c) (blk m ρ 1 k) (w8v m ρ c)
  | 2 => k0_pay9 (scl m ρ c) (blk m ρ 2 k) (w8v m ρ c)

/-- The place of an element inside its block. -/
def inBand (s : Fin 3) (k : Fin 8) (x : S4096x256.Idx) : (outR s k).shape.Idx := fun a => match a with
  | 0 => ⟨((x 0).val - (512 * k.val + offs s)) % rows s, Nat.mod_lt _ (rows_pos s)⟩
  | 1 => x 1

/-- The whole output of device `c`, element by element. -/
def outval (c : Dev nD) (x : S4096x256.Idx) : Elt F .f32 := cmpv m ρ c (own x).1 (own x).2 (inBand (own x).1 (own x).2 x)

theorem inBand_emb (s : Fin 3) (k : Fin 8) (y : (outR s k).shape.Idx) : inBand s k ((outR s k).emb y) = y := by
  funext a
  match a with
  | 0 =>
    refine Fin.ext ?_
    show (512 * k.val + offs s + 1 * (y 0).val - (512 * k.val + offs s)) % rows s = (y 0).val
    have : (y 0).val < rows s := (y 0).isLt
    rw [show 512 * k.val + offs s + 1 * (y 0).val - (512 * k.val + offs s) = (y 0).val by omega, Nat.mod_eq_of_lt this]
  | 1 => exact Fin.ext (show 0 + 1 * (y 1).val = (y 1).val by omega)

theorem own_emb (s : Fin 3) (k : Fin 8) (y : (outR s k).shape.Idx) : own ((outR s k).emb y) = (s, k) :=
  (mem_outR s k _).mp ((outR s k).idx_mem y)

theorem outval_emb (c : Dev nD) (s : Fin 3) (k : Fin 8) (y : (outR s k).shape.Idx) : outval m ρ c ((outR s k).emb y) = cmpv m ρ c s k y := by
  unfold outval
  have h := own_emb s k y
  have h2 := inBand_emb s k y
  revert h2 h
  generalize (outR s k).emb y = x
  intro h h2
  have h1 : (own x).1 = s := by rw [h]
  have h3 : (own x).2 = k := by rw [h]
  revert h1 h3
  generalize own x = p
  rintro rfl rfl
  rw [h2]

/-- The output's contents agree with `outval` on the blocks marked written (by stream and distance from `c`). -/
def outOk (c : Dev nD) (dn : Fin 3 × Fin 8 → Bool) (f : (cc0_stg4_0 : Ref sig .tc).ty.Contents (Elt F)) : Prop :=
  ∀ x : S4096x256.Idx, dn ((own x).1, xr c (own x).2) = true → f x = outval m ρ c x

theorem outOk_write (c : Dev nD) (dn : Fin 3 × Fin 8 → Bool) (f) (h : outOk m ρ c dn f) (s : Fin 3) (M : Fin 8) :
    outOk m ρ c (Function.update dn (s, M) true) ((outM.access (outR s (xr c M))).write (Elt F) f (cmpv m ρ c s (xr c M)) Finset.univ) := by
  intro x hx
  by_cases ho : own x = (s, xr c M)
  · have hm : x ∈ (outR s (xr c M)).set := (mem_outR _ _ _).mpr ho
    rw [← Rect.map_emb_univ] at hm
    obtain ⟨y, -, rfl⟩ := Finset.mem_map.mp hm
    rw [outval_emb]
    exact View.write_emb_of_mem (v := outM.access (outR s (xr c M))) f _ (Finset.mem_univ y)
  · have hm : x ∉ (outR s (xr c M)).set := fun hm => ho ((mem_outR _ _ _).mp hm)
    have hw : (outM.access (outR s (xr c M))).write (Elt F) f (cmpv m ρ c s (xr c M)) Finset.univ x = f x :=
      View.write_of_not_mem (v := outM.access (outR s (xr c M))) f _ Finset.univ (by
        show x ∉ ((View.whole cc0_stg4_0).slice (outR s (xr c M))).set
        rw [View.set_slice_whole]; exact hm)
    rw [hw]
    refine h x ?_
    rwa [Function.update_of_ne] at hx
    intro he
    refine ho ?_
    have h1 := congrArg Prod.fst he
    have h2 := congrArg Prod.snd he
    refine Prod.ext h1 ?_
    have : xr c (xr c (own x).2) = xr c M := congrArg (xr c) h2
    rwa [show xr c (xr c (own x).2) = (own x).2 from xr_cancel c _] at this

/-! ## The state -/

/-- Where the device stands. `ph t`: transfer `t` unsent (0), in flight (1), done (2); `rp t`: received; `hd (s, M)`: slot
    `c ^ M` of stream `s` not yet filled by its owner (`none`) or held in the pieces marked; `w8`: the copy of `w` made;
    `dn (s, M)`: the output block of that slot written. -/
structure Sg where
  ph : T → Fin 3
  rp : T → Bool
  hd : Fin 3 × Fin 8 → Option (Fin 4 → Bool)
  w8 : Bool
  dn : Fin 3 × Fin 8 → Bool

def sndI (c : Dev nD) (t : T) (p : Fin 3) : sProp 𝕄 := match p with
  | 0 => iprop(dutyTok ER (sendCell c t) 0 0 ∗ dutyTok ER (recvCell (xr c (mE t)) t) 0 0 ∗ atPos ER (sendCell c t) 0 ∅ 0
      ∗ ∃ f, slotPts (xr c (mE t)) t.1 (xr c (mC t)) fullShare f)
  | 1 => iprop(cred (tallyAt (sendCell c t) () (N t.1)) ∗ atPos ER (sendCell c t) 0 ∅ 0)
  | 2 => semVal (sendCell c t) 0
def rcvI (c : Dev nD) (t : T) (b : Bool) : sProp 𝕄 := match b with
  | false => iprop(cred (tallyAt (recvCell c t) () (N t.1)) ∗ atPos ER (recvCell c t) 0 ∅ 0)
  | true => semVal (recvCell c t) 0
def pcI (c : Dev nD) (u : Fin 3 × Fin 8) (j : Fin 4) (b : Bool) : sProp 𝕄 := match b with
  | true => slotPts c u.1 (xr c u.2) (sh j) (G m ρ u.1)
  | false => iprop(emp)
def sltI (c : Dev nD) (u : Fin 3 × Fin 8) (o : Option (Fin 4 → Bool)) : sProp 𝕄 := match o with
  | none => iprop(∃ f, slotPts c u.1 (xr c u.2) fullShare f)
  | some b => bigSep Finset.univ fun j => pcI m ρ c u j (b j)
def w8I (c : Dev nD) (b : Bool) : sProp 𝕄 := match b with
  | false => iprop(∃ f : Buf (Elt F) ((c : Thread nD τ).loc cc0_scratch3), ((c : Thread nD τ).loc cc0_scratch3) ↦{fullShare} f)
  | true => iprop(((c : Thread nD τ).loc cc0_scratch3) ↦{fullShare} w8v m ρ c)
def outI (c : Dev nD) (dn : Fin 3 × Fin 8 → Bool) : sProp 𝕄 :=
  iprop(∃ f : Buf (Elt F) ((c : Thread nD τ).loc cc0_stg4_0), ⌜outOk m ρ c dn f⌝ ∗ ((c : Thread nD τ).loc cc0_stg4_0) ↦{fullShare} f)
def oweI (c : Dev nD) (p : T → Bool) : sProp 𝕄 := iprop(∃ W, owes (c : Thread nD τ) (owe c p) W)
/-- What no operation changes: the staged inputs, and the barrier's counter back at zero. -/
def stgI (c : Dev nD) : sProp 𝕄 :=
  iprop((((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} sxstg m ρ c) ∗ (((c : Thread nD τ).loc cc0_stg3_0) ↦{fullShare} swstg m ρ c)
    ∗ semVal (barCell c) 0)

/-- The unsent transfers of a state. -/
abbrev uns (h : T → Fin 3) : T → Bool := fun t => decide (h t = 0)

def St (K : Dev nD × CI → ℕ) (c : Dev nD) (σ : Sg) : sProp 𝕄 :=
  iprop(records m ρ K ∗ levAts L lv ∗ oweI c (uns σ.ph)
    ∗ bigSep Finset.univ (fun t => sndI c t (σ.ph t)) ∗ bigSep Finset.univ (fun t => rcvI c t (σ.rp t))
    ∗ bigSep Finset.univ (fun u => sltI m ρ c u (σ.hd u)) ∗ w8I m ρ c σ.w8 ∗ outI m ρ c σ.dn ∗ stgI m ρ c)

theorem uns_update (h : T → Fin 3) (t : T) (p : Fin 3) : uns (Function.update h t p) = Function.update (uns h) t (decide (p = 0)) := by
  funext u
  by_cases hu : u = t
  · subst hu; rw [Function.update_self, uns, Function.update_self]
  · rw [Function.update_of_ne hu, uns, Function.update_of_ne hu]

/-! ## The pieces of a slot -/

/-- A slot held in full is its four pieces. -/
theorem pieces (c : Dev nD) (u : Fin 3 × Fin 8) :
    slotPts c u.1 (xr c u.2) fullShare (G m ρ u.1) = bigSep Finset.univ (fun j => pcI m ρ c u j true) := by
  have hs : ∀ q : PosShare TreeShare, (slotPts c u.1 (xr c u.2) q (G m ρ u.1) : sProp 𝕄)
      = iprop(slotPts c u.1 (xr c u.2) q.left (G m ρ u.1) ∗ slotPts c u.1 (xr c u.2) q.right (G m ρ u.1)) := fun q => by
    unfold slotPts
    exact BI.Entails.antisymm (pointsTo_share (PosShare.mem_left_op_right q)).1 (pointsTo_share (PosShare.mem_left_op_right q)).2
  rw [bigSep_univ_eq_bigSepL [0, 1, 2, 3] (by decide) (by decide)]
  rw [hs, hs fullShare.right, hs fullShare.right.right]
  rfl

theorem no_pieces (c : Dev nD) (u : Fin 3 × Fin 8) : (iprop(emp) : sProp 𝕄) = bigSep Finset.univ (fun j => pcI m ρ c u j false) :=
  (bigSep_emp_const _).symm

end Cert.KernelIdealProof

end
-- ==== Proof.KernelIdealSteps.lean ====
/-
The kernel's operations as steps between states: each theorem takes an operation at the head of a program from one
state of the device to the next.
-/
module

public import proofs.«01_k».proof.Proof.KernelIdealState

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ) (c : Dev nD)

/-- Transfer `t` started: the piece of the slot and the landing slot go in, the credit for the send comes out. -/
theorem send_rule {α : Type} {Q : α → sProp 𝕄} (t : T) (O : CellTallies nD τ sig Unit) (W : Waits sig Unit)
    (fd : (bufM t.1).view.ref.ty.Contents (Elt F)) {O₀ : CellTallies nD τ sig Unit}
    (hO : O₀ = O + tallyAt (recvCell (xr c (mE t)) t) () (N t.1))
    {v : Memref sig .tc .vmem (SR t.1) .fp8e4m3} (hv : v = slotM t.1 (xr c (mC t)))
    {hsc : (v : Memref sig (Dev.tc (xr c (mE t)) : Thread nD τ).2.kind .vmem (SR t.1) .fp8e4m3).view.ref.isScScratch = false}
    {hsrc : v.view.WordExact} {hdst : v.view.WordExact}
    {hsem : DmaTarget.Typed .vmem (.dma (recvS t)) (.remote (Dev.tc (xr c (mE t)) : Thread nD τ) v (.dma (sendS t)) hsc)}
    {k : PUnit → Prog (TpuEff nD τ sig (Elt F) Λ₀ .tc) α} :
    iprop(cellInv ER (Rd m ρ) (K (c, some (false, t))) (sendCell c t) ∗ cellInv ER (Rd m ρ) (K (xr c (mE t), some (true, t))) (recvCell (xr c (mE t)) t)
        ∗ slotPts c t.1 (xr c (mC t)) (sh (pc t)) (G m ρ t.1) ∗ slotPts (xr c (mE t)) t.1 (xr c (mC t)) fullShare fd ∗ owes (c : Thread nD τ) O₀ W
        ∗ dutyTok ER (sendCell c t) 0 0 ∗ reached ER (sendCell c t) 0 ∗ dutyTok ER (recvCell (xr c (mE t)) t) 0 0 ∗ reached ER (recvCell (xr c (mE t)) t) 0)
      ⊢ iprop(((cred (tallyAt (sendCell c t) () (N t.1)) ∗ owes (c : Thread nD τ) O W) -∗ WP c (k ⟨⟩) Q)
          -∗ WP c (.op (.enqueueDma v (.remote (Dev.tc (xr c (mE t)) : Thread nD τ) v (.dma (sendS t)) hsc) (.dma (recvS t)) hsrc hdst hsem) k) Q) := by
  have hP2 : ((slotM t.1 (xr c (mC t))).view.loc (xr c (mE t) : Thread nD τ) ↦[(slotM t.1 (xr c (mC t))).view.set]{fullShare}
      ((slotM t.1 (xr c (mC t))).view.write (Elt F) fd ((slotM t.1 (xr c (mC t))).view.read (Elt F) (G m ρ t.1)) Finset.univ) : sProp 𝕄)
      ⊢ (Rd m ρ).payload (recvCell (xr c (mE t)) t) 0 0 := by
    rw [payload_recv]
    unfold recvPay slotPts
    rw [xr_mM]
    exact Entails.of_eq (pointsTo_congr (fun i hi => write_read_agree (slotM t.1 (xr c (mC t))) (G m ρ t.1) fd i hi))
  have hP1 : (slotPts c t.1 (xr c (mC t)) (sh (pc t)) (G m ρ t.1) : sProp 𝕄) ⊢ (Rd m ρ).payload (sendCell c t) 0 0 := by
    rw [payload_send]; exact BI.Entails.refl _
  have hN : (slotM t.1 (xr c (mC t))).view.amount (.dma (recvS t)) = N t.1 := credit_eq _ _
  have hd1 : (0 : Fin 3) ∈ (Rd m ρ).duties (sendCell c t) 0 := by rw [duties_send]; exact Finset.mem_singleton_self _
  have hd2 : (0 : Fin 3) ∈ (Rd m ρ).duties (recvCell (xr c (mE t)) t) 0 := by rw [duties_recv]; exact Finset.mem_singleton_self _
  subst hv
  exact Rounds.wp_send_pointsTo 𝒱₀ ER (Rd m ρ) (c : Thread nD τ) none (κ₁ := K (c, some (false, t))) (κ₂ := K (xr c (mE t), some (true, t)))
    (c' := (Dev.tc (xr c (mE t)) : Thread nD τ)) (src := slotM t.1 (xr c (mC t))) (dst := slotM t.1 (xr c (mC t))) (q := sh (pc t)) (fs := G m ρ t.1)
    (r₁ := 0) (r₂ := 0) (d₁ := 0) (d₂ := 0) (fd := fd) hd1 hd2
    () () (N t.1) hN (amount_send m ρ c t 0) (amount_recv m ρ (xr c (mE t)) t 0) O hO (W := W)
    hP1 hP2 (hr := Topo.routes_tc c (xr c (mE t)))

/-- Start transfer `t`: a piece of the slot goes with it, and the credit of its receive cell is no longer owed. -/
theorem step_send {α : Type} {Q : α → sProp 𝕄} (σ : Sg) (t : T) (b : Fin 4 → Bool) (h0 : σ.ph t = 0) (hb : σ.hd (t.1, mC t) = some b) (hp : b (pc t) = true)
    {n : Dev nD} (hn : n = xr c (mE t)) {v : Memref sig .tc .vmem (SR t.1) .fp8e4m3} (hv : v = slotM t.1 (xr c (mC t)))
    {qs qr : DmaSem sig} (hqs : qs = sendS t) (hqr : qr = recvS t)
    {hsc : (v : Memref sig (Dev.tc n : Thread nD τ).2.kind .vmem (SR t.1) .fp8e4m3).view.ref.isScScratch = false}
    {hsrc : v.view.WordExact} {hdst : v.view.WordExact}
    {hsem : DmaTarget.Typed .vmem (.dma qr) (.remote (Dev.tc n : Thread nD τ) v (.dma qs) hsc)}
    {k : PUnit → Prog (TpuEff nD τ sig (Elt F) Λ₀ .tc) α}
    (hk : St m ρ K c { σ with ph := Function.update σ.ph t 1, hd := Function.update σ.hd (t.1, mC t) (some (Function.update b (pc t) false)) } ⊢ WP c (k ⟨⟩) Q) :
    St m ρ K c σ ⊢ WP c (.op (.enqueueDma v (.remote (Dev.tc n : Thread nD τ) v (.dma qs) hsc) (.dma qr) hsrc hdst hsem) k) Q := by
  subst hn hqs hqr
  have hS := fam_upd (sndI (F := F) c) σ.ph t 1
  rw [h0] at hS
  have hH := fam_upd (sltI m ρ c) σ.hd (t.1, mC t) (some (Function.update b (pc t) false))
  rw [hb] at hH
  have hJ := fam_upd (pcI m ρ c (t.1, mC t)) b (pc t) false
  rw [hp] at hJ
  have hu : uns σ.ph t = true := by simp [uns, h0]
  have hO : owe c (uns σ.ph) = owe c (uns (Function.update σ.ph t 1)) + tallyAt (recvCell (xr c (mE t)) t) () (N t.1) := by
    rw [uns_update]; exact owe_take c _ t hu
  unfold St oweI at hk ⊢
  iintro ⟨#HR, #HL, HO, HS, HV, HH, HW, HU, HG⟩
  ihave HS' := hS $$ HS
  icases HS' with ⟨Hs, HSc⟩
  ihave HH' := hH $$ HH
  icases HH' with ⟨Hh, HHc⟩
  unfold sltI
  ihave Hh' := hJ $$ Hh
  icases Hh' with ⟨Hp, Hhc⟩
  unfold sndI pcI
  icases Hs with ⟨Ht1, Ht2, Hat, ⟨%fd, Hd⟩⟩
  icases HO with ⟨%W, HO⟩
  ihave #HR1 := (records_at m ρ K (c, some (false, t))) $$ HR
  ihave #HR2 := (records_at m ρ K (xr c (mE t), some (true, t))) $$ HR
  icases HR1 with ⟨#HI1, #Hr1⟩
  icases HR2 with ⟨#HI2, #Hr2⟩
  iapply (send_rule m ρ K c t (owe c (uns (Function.update σ.ph t 1))) W fd hO hv) $$ [Hp Hd HO Ht1 Ht2]
  · isplitr; · iexact HI1
    isplitr; · iexact HI2
    isplitl [Hp]; · iexact Hp
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply hk
  isplitr; · iexact HR
  isplitr; · iexact HL
  isplitl [HO]
  · iexists W; iexact HO
  isplitl [HSc Hc Hat]
  · iapply HSc
    isplitl [Hc] <;> iassumption
  isplitl [HV]; · iexact HV
  isplitl [HHc Hhc]
  · iapply HHc
    iapply Hhc
    iempintro
  isplitl [HW]; · iexact HW
  isplitl [HU]; · iexact HU
  iexact HG

/-- A wait on the send cell of transfer `t` that takes its credit: the piece of the slot comes back, and the cell with it. -/
theorem wait_send_rule {α : Type} {Q : α → sProp 𝕄} (t : T) (p : T → Bool) (hlv : ∀ u, p u = true → 0 < lvT u)
    {q : DmaSem sig} (hq : q = sendS t) {src dst : Memref sig .tc .vmem (SR t.1) .fp8e4m3} (hN : dst.view.dmaCredit = N t.1)
    {hsrc : src.view.WordExact} {hdst : dst.view.WordExact} {k : PUnit → Prog (TpuEff nD τ sig (Elt F) Λ₀ .tc) α} :
    iprop(records m ρ K ∗ levAts L lv ∗ oweI (F := F) c p ∗ cred (tallyAt (sendCell c t) () (N t.1)) ∗ atPos ER (sendCell c t) 0 ∅ 0)
      ⊢ iprop(((oweI c p ∗ semVal (sendCell c t) 0 ∗ slotPts c t.1 (xr c (mC t)) (sh (pc t)) (G m ρ t.1)) -∗ WP c (k ⟨⟩) Q)
          -∗ WP c (.op (.waitDma2 q src dst hsrc hdst) k) Q) := by
  subst hq
  unfold oweI
  iintro ⟨#HR, #HL, HO, Hc, Hat⟩ Hk
  icases HO with ⟨%W, HO⟩
  ihave #HR1 := (records_at m ρ K (c, some (false, t))) $$ HR
  icases HR1 with ⟨#HI1, #Hr1⟩
  iapply (Rounds.wp_wait_rest_token 𝒱₀ ER (Rd m ρ) (c : Thread nD τ) none (κ := K (c, some (false, t))) (wpE_waitDma2_eq 𝒱₀ (c : Thread nD τ) none Set.univ) (Set.mem_univ _) ()
    (O := owe c p) (W := W) (R := 0) (m := 0) (T := ∅) (by rw [Nat.zero_add, hN]; exact (expect_send m ρ c t).symm)) $$ [HO Hc Hat]
  · isplitr; · iexact HI1
    isplitl [Hc]
    · rw [hN]; iexact Hc
    isplitl [HO]; · iexact HO
    isplitr
    · iapply (mayWait c (.dma (sendS t)) p 0 (le_of_eq (lv_send c t ())) hlv); iexact HL
    iexact Hat
  iintro ⟨HO, Hat, Hr, HP⟩
  imod (Rounds.cell_close ER (Rd m ρ) (Set.mem_univ (K (c, some (false, t)))) (fun h => h) (R := 0 + 1) (duties_later m ρ _)) $$ [Hat] with HzS
  · isplitr; · iexact HI1
    iexact Hat
  iapply Hk
  isplitl [HO]
  · iexists _; iexact HO
  isplitl [HzS]; · iexact HzS
  ihave HP := (Entails.of_eq (rest_send m ρ c t)) $$ HP
  unfold sendPay
  iexact HP

/-- A wait on the receive cell of transfer `t`: the slot comes filled, and the cell back. -/
theorem wait_recv_rule {α : Type} {Q : α → sProp 𝕄} (t : T) (p : T → Bool) (hlv : ∀ u, p u = true → lvT t < lvT u)
    {q : DmaSem sig} (hq : q = recvS t) {src dst : Memref sig .tc .vmem (SR t.1) .fp8e4m3} (hN : dst.view.dmaCredit = N t.1)
    {hsrc : src.view.WordExact} {hdst : dst.view.WordExact} {k : PUnit → Prog (TpuEff nD τ sig (Elt F) Λ₀ .tc) α} :
    iprop(records m ρ K ∗ levAts L lv ∗ oweI (F := F) c p ∗ cred (tallyAt (recvCell c t) () (N t.1)) ∗ atPos ER (recvCell c t) 0 ∅ 0)
      ⊢ iprop(((oweI c p ∗ semVal (recvCell c t) 0 ∗ slotPts c t.1 (xr c (mM t)) fullShare (G m ρ t.1)) -∗ WP c (k ⟨⟩) Q)
          -∗ WP c (.op (.waitDma2 q src dst hsrc hdst) k) Q) := by
  subst hq
  unfold oweI
  iintro ⟨#HR, #HL, HO, Hc, Hat⟩ Hk
  icases HO with ⟨%W, HO⟩
  ihave #HR1 := (records_at m ρ K (c, some (true, t))) $$ HR
  icases HR1 with ⟨#HI1, #Hr1⟩
  iapply (Rounds.wp_wait_rest_token 𝒱₀ ER (Rd m ρ) (c : Thread nD τ) none (κ := K (c, some (true, t))) (wpE_waitDma2_eq 𝒱₀ (c : Thread nD τ) none Set.univ) (Set.mem_univ _) ()
    (O := owe c p) (W := W) (R := 0) (m := 0) (T := ∅) (by rw [Nat.zero_add, hN]; exact (expect_recv m ρ c t).symm)) $$ [HO Hc Hat]
  · isplitr; · iexact HI1
    isplitl [Hc]
    · rw [hN]; iexact Hc
    isplitl [HO]; · iexact HO
    isplitr
    · iapply (mayWait c (.dma (recvS t)) p (lvT t) (le_of_eq (lv_recv c t ())) hlv); iexact HL
    iexact Hat
  iintro ⟨HO, Hat, Hr, HP⟩
  imod (Rounds.cell_close ER (Rd m ρ) (Set.mem_univ (K (c, some (true, t)))) (fun h => h) (R := 0 + 1) (duties_later m ρ _)) $$ [Hat] with HzS
  · isplitr; · iexact HI1
    iexact Hat
  iapply Hk
  isplitl [HO]
  · iexists _; iexact HO
  isplitl [HzS]; · iexact HzS
  ihave HP := (Entails.of_eq (rest_recv m ρ c t)) $$ HP
  unfold recvPay
  iexact HP

/-- Wait for transfer `t` to have been read: its piece of the slot is back. -/
theorem step_ws {α : Type} {Q : α → sProp 𝕄} (σ : Sg) (t : T) (b : Fin 4 → Bool) (h1 : σ.ph t = 1) (hb : σ.hd (t.1, mC t) = some b) (hp : b (pc t) = false)
    {q : DmaSem sig} (hq : q = sendS t) {src dst : Memref sig .tc .vmem (SR t.1) .fp8e4m3} (hN : dst.view.dmaCredit = N t.1)
    {hsrc : src.view.WordExact} {hdst : dst.view.WordExact} {k : PUnit → Prog (TpuEff nD τ sig (Elt F) Λ₀ .tc) α}
    (hk : St m ρ K c { σ with ph := Function.update σ.ph t 2, hd := Function.update σ.hd (t.1, mC t) (some (Function.update b (pc t) true)) } ⊢ WP c (k ⟨⟩) Q) :
    St m ρ K c σ ⊢ WP c (.op (.waitDma2 q src dst hsrc hdst) k) Q := by
  have hS := fam_upd (sndI (F := F) c) σ.ph t 2
  rw [h1] at hS
  have hH := fam_upd (sltI m ρ c) σ.hd (t.1, mC t) (some (Function.update b (pc t) true))
  rw [hb] at hH
  have hJ := fam_upd (pcI m ρ c (t.1, mC t)) b (pc t) true
  rw [hp] at hJ
  have hu : uns (Function.update σ.ph t 2) = uns σ.ph := by
    rw [uns_update]
    funext u
    by_cases hut : u = t
    · subst hut; rw [Function.update_self, uns, h1]; rfl
    · rw [Function.update_of_ne hut]
  have hlv : ∀ u, uns σ.ph u = true → 0 < lvT u := fun u _ => (by decide : ∀ u : T, 0 < lvT u) u
  unfold St at hk ⊢
  rw [hu] at hk
  iintro ⟨#HR, #HL, HO, HS, HV, HH, HW, HU, HG⟩
  ihave HS' := hS $$ HS
  icases HS' with ⟨Hs, HSc⟩
  ihave HH' := hH $$ HH
  icases HH' with ⟨Hh, HHc⟩
  unfold sltI
  ihave Hh' := hJ $$ Hh
  icases Hh' with ⟨Hp, Hhc⟩
  unfold sndI pcI
  icases Hs with ⟨Hc, Hat⟩
  iapply (wait_send_rule m ρ K c t (uns σ.ph) hlv hq hN) $$ [HO Hc Hat]
  · isplitr; · iexact HR
    isplitr; · iexact HL
    isplitl [HO]; · iexact HO
    isplitl [Hc]; · iexact Hc
    iexact Hat
  iintro ⟨HO, Hz, Hq⟩
  iapply hk
  isplitr; · iexact HR
  isplitr; · iexact HL
  isplitl [HO]; · iexact HO
  isplitl [HSc Hz]
  · iapply HSc; iexact Hz
  isplitl [HV]; · iexact HV
  isplitl [HHc Hhc Hq]
  · iapply HHc
    iapply Hhc
    iexact Hq
  isplitl [HW]; · iexact HW
  isplitl [HU]; · iexact HU
  iexact HG

/-- Wait for what transfer `t` brings: the slot is there, filled. -/
theorem step_wr {α : Type} {Q : α → sProp 𝕄} (σ : Sg) (t : T) (h1 : σ.rp t = false) (hb : σ.hd (t.1, mM t) = some (fun _ => false))
    (hlv : ∀ u, uns σ.ph u = true → lvT t < lvT u)
    {q : DmaSem sig} (hq : q = recvS t) {src dst : Memref sig .tc .vmem (SR t.1) .fp8e4m3} (hN : dst.view.dmaCredit = N t.1)
    {hsrc : src.view.WordExact} {hdst : dst.view.WordExact} {k : PUnit → Prog (TpuEff nD τ sig (Elt F) Λ₀ .tc) α}
    (hk : St m ρ K c { σ with rp := Function.update σ.rp t true, hd := Function.update σ.hd (t.1, mM t) (some (fun _ => true)) } ⊢ WP c (k ⟨⟩) Q) :
    St m ρ K c σ ⊢ WP c (.op (.waitDma2 q src dst hsrc hdst) k) Q := by
  have hS := fam_upd (rcvI (F := F) c) σ.rp t true
  rw [h1] at hS
  have hH := fam_upd (sltI m ρ c) σ.hd (t.1, mM t) (some (fun _ => true))
  unfold St at hk ⊢
  iintro ⟨#HR, #HL, HO, HS, HV, HH, HW, HU, HG⟩
  ihave HV' := hS $$ HV
  icases HV' with ⟨Hs, HSc⟩
  ihave HH' := hH $$ HH
  icases HH' with ⟨Hh, HHc⟩
  unfold rcvI
  icases Hs with ⟨Hc, Hat⟩
  iapply (wait_recv_rule m ρ K c t (uns σ.ph) hlv hq hN) $$ [HO Hc Hat]
  · isplitr; · iexact HR
    isplitr; · iexact HL
    isplitl [HO]; · iexact HO
    isplitl [Hc]; · iexact Hc
    iexact Hat
  iintro ⟨HO, Hz, Hq⟩
  iapply hk
  isplitr; · iexact HR
  isplitr; · iexact HL
  isplitl [HO]; · iexact HO
  isplitl [HS]; · iexact HS
  isplitl [HSc Hz]
  · iapply HSc; iexact Hz
  isplitl [HHc Hq]
  · iapply HHc
    unfold sltI
    iapply (Entails.of_eq (pieces m ρ c (t.1, mM t)))
    iexact Hq
  isplitl [HW]; · iexact HW
  isplitl [HU]; · iexact HU
  iexact HG

/-! ## Loads and stores -/

/-- Load a filled slot: device `c ^ M`'s band. -/
theorem step_load {α : Type} {Q : α → sProp 𝕄} (σ : Sg) (s : Fin 3) (M : Fin 8) (b : Fin 4 → Bool) (hb : σ.hd (s, M) = some b) (hp : b 0 = true)
    {v : Memref sig .tc .vmem (SB s) .fp8e4m3} (hv : v = bufM s) {off : Fin 3 → Nat} {hin : ∀ a, off a + (![1, rows s, 4096] : Fin 3 → Nat) a ≤ (SB s).size a}
    (ho : off = ![(xr c M).val, 0, 0]) {hl : v.view.LoadsAt (Rect.unit (s := SB s) off ![1, rows s, 4096] hin).toLoadRect}
    {k : ((slotR s (xr c M)).shape.Idx → Elt F .fp8e4m3) → Prog (TpuEff nD τ sig (Elt F) Λ₀ .tc) α}
    (hk : St m ρ K c σ ⊢ WP c (k (blk m ρ s (xr c M))) Q) :
    St m ρ K c σ ⊢ WP c (.op (.load v (Rect.unit (s := SB s) off ![1, rows s, 4096] hin).toLoadRect hl) k) Q := by
  subst hv ho
  have hH := fam_get (fun u => sltI m ρ c u (σ.hd u)) (s, M)
  rw [hb] at hH
  have hJ := fam_get (fun j => pcI m ρ c (s, M) j (b j)) 0
  rw [hp] at hJ
  unfold St at hk ⊢
  iintro ⟨#HR, #HL, HO, HS, HV, HH, HW, HU, HG⟩
  ihave HH' := hH $$ HH
  icases HH' with ⟨Hh, HHc⟩
  unfold sltI
  ihave Hh' := hJ $$ Hh
  icases Hh' with ⟨Hp, Hhc⟩
  unfold pcI slotPts
  iapply (wp_load_rect 𝒱₀ (c : Thread nD τ) none Set.univ (m := bufM s) (r := slotR s (xr c M)) (S := (slotM s (xr c M)).view.set) (q := sh 0) (f := G m ρ s) (hl := hl) (k := k)
    (subset_of_eq (slot_set s (xr c M)).symm)) $$ [Hp]
  · iexact Hp
  iintro Hp
  rw [read_slot]
  iapply hk
  isplitr; · iexact HR
  isplitr; · iexact HL
  isplitl [HO]; · iexact HO
  isplitl [HS]; · iexact HS
  isplitl [HV]; · iexact HV
  isplitl [HHc Hhc Hp]
  · iapply HHc
    iapply Hhc
    iexact Hp
  isplitl [HW]; · iexact HW
  isplitl [HU]; · iexact HU
  iexact HG

/-- Load the own slot before it is filled: whatever was there. -/
theorem step_dead {α : Type} {Q : α → sProp 𝕄} (σ : Sg) (s : Fin 3) (hb : σ.hd (s, 0) = none)
    {v : Memref sig .tc .vmem (SB s) .fp8e4m3} (hv : v = bufM s) {off : Fin 3 → Nat} {hin : ∀ a, off a + (![1, rows s, 4096] : Fin 3 → Nat) a ≤ (SB s).size a}
    (ho : off = ![(xr c 0).val, 0, 0]) {hl : v.view.LoadsAt (Rect.unit (s := SB s) off ![1, rows s, 4096] hin).toLoadRect}
    {k : ((slotR s (xr c 0)).shape.Idx → Elt F .fp8e4m3) → Prog (TpuEff nD τ sig (Elt F) Λ₀ .tc) α}
    (hk : ∀ x, St m ρ K c σ ⊢ WP c (k x) Q) :
    St m ρ K c σ ⊢ WP c (.op (.load v (Rect.unit (s := SB s) off ![1, rows s, 4096] hin).toLoadRect hl) k) Q := by
  subst hv ho
  have hH := fam_get (fun u => sltI m ρ c u (σ.hd u)) (s, 0)
  rw [hb] at hH
  unfold St at hk ⊢
  iintro ⟨#HR, #HL, HO, HS, HV, HH, HW, HU, HG⟩
  ihave HH' := hH $$ HH
  icases HH' with ⟨Hh, HHc⟩
  unfold sltI
  icases Hh with ⟨%f, Hp⟩
  unfold slotPts
  iapply (wp_load_rect 𝒱₀ (c : Thread nD τ) none Set.univ (m := bufM s) (r := slotR s (xr c 0)) (S := (slotM s (xr c 0)).view.set) (q := fullShare) (f := f) (hl := hl) (k := k)
    (subset_of_eq (slot_set s (xr c 0)).symm)) $$ [Hp]
  · iexact Hp
  iintro Hp
  iapply (hk _)
  isplitr; · iexact HR
  isplitr; · iexact HL
  isplitl [HO]; · iexact HO
  isplitl [HS]; · iexact HS
  isplitl [HV]; · iexact HV
  isplitl [HHc Hp]
  · iapply HHc
    iexists f
    iexact Hp
  isplitl [HW]; · iexact HW
  isplitl [HU]; · iexact HU
  iexact HG

/-- Store the own slot: the device's band. -/
theorem step_own {α : Type} {Q : α → sProp 𝕄} (σ : Sg) (s : Fin 3) (hb : σ.hd (s, 0) = none)
    {v : Memref sig .tc .vmem (SB s) .fp8e4m3} (hv : v = bufM s) {off : Fin 3 → Nat} {hin : ∀ a, off a + (![1, rows s, 4096] : Fin 3 → Nat) a ≤ (SB s).size a}
    (ho : off = ![(xr c 0).val, 0, 0]) {w : (slotR s c).shape.Idx → Elt F .fp8e4m3} (hw : w = blk m ρ s c)
    {hx : (v.access (Rect.unit (s := SB s) off ![1, rows s, 4096] hin)).Stores Finset.univ}
    {hm : (Finset.univ : Finset (Rect.unit (s := SB s) off ![1, rows s, 4096] hin).shape.Idx) = Finset.univ ∨ ∀ a, (Rect.unit (s := SB s) off ![1, rows s, 4096] hin).stride a = 1}
    {k : PUnit → Prog (TpuEff nD τ sig (Elt F) Λ₀ .tc) α}
    (hk : St m ρ K c { σ with hd := Function.update σ.hd (s, 0) (some (fun _ => true)) } ⊢ WP c (k ⟨⟩) Q) :
    St m ρ K c σ ⊢ WP c (.op (.store v (Rect.unit (s := SB s) off ![1, rows s, 4096] hin) w Finset.univ hx hm) k) Q := by
  subst hv ho
  have hwr : ∀ f, ∀ i ∈ (slotM s (xr c 0)).view.set, ((bufM s).access (slotR s (xr c 0))).write (Elt F) f w Finset.univ i = G m ρ s i := by
    intro f
    have h2 := write_slot m ρ s (xr c 0) f
    rw [hw]
    rw [xr_zero] at h2 ⊢
    exact h2
  have hH := fam_upd (sltI m ρ c) σ.hd (s, 0) (some (fun _ => true))
  rw [hb] at hH
  unfold St at hk ⊢
  iintro ⟨#HR, #HL, HO, HS, HV, HH, HW, HU, HG⟩
  ihave HH' := hH $$ HH
  icases HH' with ⟨Hh, HHc⟩
  unfold sltI
  icases Hh with ⟨%f, Hp⟩
  unfold slotPts
  iapply (wp_store 𝒱₀ (c : Thread nD τ) none Set.univ (m := bufM s) (r := slotR s (xr c 0)) (S := (slotM s (xr c 0)).view.set) (f := f) (w := w) (Mk := Finset.univ) (hx := hx) (hm := hm) (k := k)
    (subset_of_eq (slot_set s (xr c 0)).symm)) $$ [Hp]
  · iexact Hp
  iintro Hp
  iapply hk
  isplitr; · iexact HR
  isplitr; · iexact HL
  isplitl [HO]; · iexact HO
  isplitl [HS]; · iexact HS
  isplitl [HV]; · iexact HV
  isplitl [HHc Hp]
  · iapply HHc
    iapply (Entails.of_eq (pieces m ρ c (s, 0)))
    unfold slotPts
    iapply (Entails.of_eq (pointsTo_congr (hwr f)))
    iexact Hp
  isplitl [HW]; · iexact HW
  isplitl [HU]; · iexact HU
  iexact HG

/-- Load rows of the staged `x`. -/
theorem step_x {α : Type} {Q : α → sProp 𝕄} (σ : Sg) {r : LoadRect S512x4096} {hl : xM.view.LoadsAt r}
    {k : (r.shape.Idx → Elt F .fp8e4m3) → Prog (TpuEff nD τ sig (Elt F) Λ₀ .tc) α}
    (hk : St m ρ K c σ ⊢ WP c (k (xM.view.readAt (Elt F) r (xstg m ρ c))) Q) :
    St m ρ K c σ ⊢ WP c (.op (.load xM r hl) k) Q := by
  unfold St stgI at hk ⊢
  iintro ⟨#HR, #HL, HO, HS, HV, HH, HW, HU, HG1, HG⟩
  iapply (wp_load 𝒱₀ (c : Thread nD τ) none Set.univ (m := xM) (r := r) (S := Finset.univ) (q := fullShare) (f := xstg m ρ c) (hl := hl) (k := k) (Finset.subset_univ _)) $$ [HG1]
  · iexact HG1
  iintro HG1
  iapply hk
  isplitr; · iexact HR
  isplitr; · iexact HL
  isplitl [HO]; · iexact HO
  isplitl [HS]; · iexact HS
  isplitl [HV]; · iexact HV
  isplitl [HH]; · iexact HH
  isplitl [HW]; · iexact HW
  isplitl [HU]; · iexact HU
  isplitl [HG1]; · iexact HG1
  iexact HG

/-- Load the staged `w`. -/
theorem step_w {α : Type} {Q : α → sProp 𝕄} (σ : Sg) {r : LoadRect S4096x256} {hl : wM.view.LoadsAt r}
    {k : (r.shape.Idx → Elt F .fp8e4m3) → Prog (TpuEff nD τ sig (Elt F) Λ₀ .tc) α}
    (hk : St m ρ K c σ ⊢ WP c (k (wM.view.readAt (Elt F) r (wstg m ρ c))) Q) :
    St m ρ K c σ ⊢ WP c (.op (.load wM r hl) k) Q := by
  unfold St stgI at hk ⊢
  iintro ⟨#HR, #HL, HO, HS, HV, HH, HW, HU, HG1, HG2, HG⟩
  iapply (wp_load 𝒱₀ (c : Thread nD τ) none Set.univ (m := wM) (r := r) (S := Finset.univ) (q := fullShare) (f := wstg m ρ c) (hl := hl) (k := k) (Finset.subset_univ _)) $$ [HG2]
  · iexact HG2
  iintro HG2
  iapply hk
  isplitr; · iexact HR
  isplitr; · iexact HL
  isplitl [HO]; · iexact HO
  isplitl [HS]; · iexact HS
  isplitl [HV]; · iexact HV
  isplitl [HH]; · iexact HH
  isplitl [HW]; · iexact HW
  isplitl [HU]; · iexact HU
  isplitl [HG1]; · iexact HG1
  isplitl [HG2]; · iexact HG2
  iexact HG

/-- Read the first scale. -/
theorem step_sx {α : Type} {Q : α → sProp 𝕄} (σ : Sg) {hw : (sxM.access rS).Loads} {x : rS.shape.Idx}
    {k : Elt F .f32 → Prog (TpuEff nD τ sig (Elt F) Λ₀ .tc) α}
    (hk : St m ρ K c σ ⊢ WP c (k ((sxM.access rS).read (Elt F) (sxstg m ρ c) x)) Q) :
    St m ρ K c σ ⊢ WP c (smemLoadElt sxM rS hw x k) Q := by
  unfold St stgI at hk ⊢
  iintro ⟨#HR, #HL, HO, HS, HV, HH, HW, HU, HG1, HG2, HG3, HG⟩
  iapply (wp_smemLoadElt 𝒱₀ (c : Thread nD τ) none Set.univ (m := sxM) (r := rS) (S := Finset.univ) (q := fullShare) (f := sxstg m ρ c) (hw := hw) (x := x) (k := k) (Finset.subset_univ _)) $$ [HG3]
  · iexact HG3
  iintro HG3
  iapply hk
  isplitr; · iexact HR
  isplitr; · iexact HL
  isplitl [HO]; · iexact HO
  isplitl [HS]; · iexact HS
  isplitl [HV]; · iexact HV
  isplitl [HH]; · iexact HH
  isplitl [HW]; · iexact HW
  isplitl [HU]; · iexact HU
  isplitl [HG1]; · iexact HG1
  isplitl [HG2]; · iexact HG2
  isplitl [HG3]; · iexact HG3
  iexact HG

/-- Read the second scale. -/
theorem step_sw {α : Type} {Q : α → sProp 𝕄} (σ : Sg) {hw : (swM.access rS).Loads} {x : rS.shape.Idx}
    {k : Elt F .f32 → Prog (TpuEff nD τ sig (Elt F) Λ₀ .tc) α}
    (hk : St m ρ K c σ ⊢ WP c (k ((swM.access rS).read (Elt F) (swstg m ρ c) x)) Q) :
    St m ρ K c σ ⊢ WP c (smemLoadElt swM rS hw x k) Q := by
  unfold St stgI at hk ⊢
  iintro ⟨#HR, #HL, HO, HS, HV, HH, HW, HU, HG1, HG2, HG3, HG4, HG⟩
  iapply (wp_smemLoadElt 𝒱₀ (c : Thread nD τ) none Set.univ (m := swM) (r := rS) (S := Finset.univ) (q := fullShare) (f := swstg m ρ c) (hw := hw) (x := x) (k := k) (Finset.subset_univ _)) $$ [HG4]
  · iexact HG4
  iintro HG4
  iapply hk
  isplitr; · iexact HR
  isplitr; · iexact HL
  isplitl [HO]; · iexact HO
  isplitl [HS]; · iexact HS
  isplitl [HV]; · iexact HV
  isplitl [HH]; · iexact HH
  isplitl [HW]; · iexact HW
  isplitl [HU]; · iexact HU
  isplitl [HG1]; · iexact HG1
  isplitl [HG2]; · iexact HG2
  isplitl [HG3]; · iexact HG3
  isplitl [HG4]; · iexact HG4
  iexact HG

theorem zero2 : (![0, 0] : Fin 2 → Nat) = fun _ => 0 := funext fun a => by fin_cases a <;> rfl

/-- Load the copy of `w` before it is made: whatever was there. -/
theorem step_w8_dead {α : Type} {Q : α → sProp 𝕄} (σ : Sg) (h : σ.w8 = false) {r : LoadRect S4096x256} {hl : w8M.view.LoadsAt r}
    {k : (r.shape.Idx → Elt F .fp8e4m3) → Prog (TpuEff nD τ sig (Elt F) Λ₀ .tc) α}
    (hk : ∀ x, St m ρ K c σ ⊢ WP c (k x) Q) :
    St m ρ K c σ ⊢ WP c (.op (.load w8M r hl) k) Q := by
  unfold St at hk ⊢
  rw [h] at hk ⊢
  unfold w8I at hk ⊢
  iintro ⟨#HR, #HL, HO, HS, HV, HH, HW, HU, HG⟩
  icases HW with ⟨%f, HW⟩
  iapply (wp_load 𝒱₀ (c : Thread nD τ) none Set.univ (m := w8M) (r := r) (S := Finset.univ) (q := fullShare) (f := f) (hl := hl) (k := k) (Finset.subset_univ _)) $$ [HW]
  · iexact HW
  iintro HW
  iapply (hk _)
  isplitr; · iexact HR
  isplitr; · iexact HL
  isplitl [HO]; · iexact HO
  isplitl [HS]; · iexact HS
  isplitl [HV]; · iexact HV
  isplitl [HH]; · iexact HH
  isplitl [HW]
  · iexists f; iexact HW
  isplitl [HU]; · iexact HU
  iexact HG

/-- Make the copy of `w`. -/
theorem step_w8_store {α : Type} {Q : α → sProp 𝕄} (σ : Sg) (h : σ.w8 = false) {w : r88.shape.Idx → Elt F .fp8e4m3} (hw : w = w8v m ρ c)
    {hx : (w8M.access r88).Stores Finset.univ} {hm : (Finset.univ : Finset r88.shape.Idx) = Finset.univ ∨ ∀ a, r88.stride a = 1}
    {k : PUnit → Prog (TpuEff nD τ sig (Elt F) Λ₀ .tc) α}
    (hk : St m ρ K c { σ with w8 := true } ⊢ WP c (k ⟨⟩) Q) :
    St m ρ K c σ ⊢ WP c (.op (.store w8M r88 w Finset.univ hx hm) k) Q := by
  subst hw
  unfold St at hk ⊢
  rw [h]
  unfold w8I at hk ⊢
  iintro ⟨#HR, #HL, HO, HS, HV, HH, HW, HU, HG⟩
  icases HW with ⟨%f, HW⟩
  iapply (wp_store 𝒱₀ (c : Thread nD τ) none Set.univ (m := w8M) (r := r88) (S := Finset.univ) (f := f) (w := w8v m ρ c) (Mk := Finset.univ) (hx := hx) (hm := hm) (k := k) (Finset.subset_univ _)) $$ [HW]
  · iexact HW
  iintro HW
  have e : (w8M.access r88).write (Elt F) f (w8v m ρ c) Finset.univ = w8v m ρ c := Memref.write_access_unit_zero_univ (Elt F) cc0_scratch3 zero2 _ _ _
  rw [e]
  iapply hk
  isplitr; · iexact HR
  isplitr; · iexact HL
  isplitl [HO]; · iexact HO
  isplitl [HS]; · iexact HS
  isplitl [HV]; · iexact HV
  isplitl [HH]; · iexact HH
  isplitl [HW]; · iexact HW
  isplitl [HU]; · iexact HU
  iexact HG

/-- Load the copy of `w`. -/
theorem step_w8 {α : Type} {Q : α → sProp 𝕄} (σ : Sg) (h : σ.w8 = true) {hl : w8M.view.LoadsAt r88.toLoadRect}
    {k : (r88.shape.Idx → Elt F .fp8e4m3) → Prog (TpuEff nD τ sig (Elt F) Λ₀ .tc) α}
    (hk : St m ρ K c σ ⊢ WP c (k (w8v m ρ c)) Q) :
    St m ρ K c σ ⊢ WP c (.op (.load w8M r88.toLoadRect hl) k) Q := by
  unfold St at hk ⊢
  rw [h] at hk ⊢
  unfold w8I at hk ⊢
  iintro ⟨#HR, #HL, HO, HS, HV, HH, HW, HU, HG⟩
  iapply (wp_load 𝒱₀ (c : Thread nD τ) none Set.univ (m := w8M) (r := r88.toLoadRect) (S := Finset.univ) (q := fullShare) (f := w8v m ρ c) (hl := hl) (k := k) (Finset.subset_univ _)) $$ [HW]
  · iexact HW
  iintro HW
  have e : w8M.view.readAt (Elt F) r88.toLoadRect (w8v m ρ c) = w8v m ρ c := Memref.readAt_unit_zero (Elt F) cc0_scratch3 zero2 _ _
  rw [e]
  iapply hk
  isplitr; · iexact HR
  isplitr; · iexact HL
  isplitl [HO]; · iexact HO
  isplitl [HS]; · iexact HS
  isplitl [HV]; · iexact HV
  isplitl [HH]; · iexact HH
  isplitl [HW]; · iexact HW
  isplitl [HU]; · iexact HU
  iexact HG

/-- Load from the output: whatever was there. -/
theorem step_out_dead {α : Type} {Q : α → sProp 𝕄} (σ : Sg) {r : LoadRect S4096x256} {hl : outM.view.LoadsAt r}
    {k : (r.shape.Idx → Elt F .f32) → Prog (TpuEff nD τ sig (Elt F) Λ₀ .tc) α}
    (hk : ∀ x, St m ρ K c σ ⊢ WP c (k x) Q) :
    St m ρ K c σ ⊢ WP c (.op (.load outM r hl) k) Q := by
  unfold St outI at hk ⊢
  iintro ⟨#HR, #HL, HO, HS, HV, HH, HW, HU, HG⟩
  icases HU with ⟨%f, %hf, HU⟩
  iapply (wp_load 𝒱₀ (c : Thread nD τ) none Set.univ (m := outM) (r := r) (S := Finset.univ) (q := fullShare) (f := f) (hl := hl) (k := k) (Finset.subset_univ _)) $$ [HU]
  · iexact HU
  iintro HU
  iapply (hk _)
  isplitr; · iexact HR
  isplitr; · iexact HL
  isplitl [HO]; · iexact HO
  isplitl [HS]; · iexact HS
  isplitl [HV]; · iexact HV
  isplitl [HH]; · iexact HH
  isplitl [HW]; · iexact HW
  isplitl [HU]
  · iexists f
    isplitr; · ipureintro; exact hf
    iexact HU
  iexact HG

/-- Store the output's block of device `c ^ M`'s band `s`. -/
theorem step_out {α : Type} {Q : α → sProp 𝕄} (σ : Sg) (s : Fin 3) (M : Fin 8)
    {off : Fin 2 → Nat} {hin : ∀ a, off a + (![rows s, 256] : Fin 2 → Nat) a ≤ S4096x256.size a} (ho : off = ![512 * (xr c M).val + offs s, 0])
    {w : (outR s (xr c M)).shape.Idx → Elt F .f32} (hw : w = cmpv m ρ c s (xr c M))
    {hx : (outM.access (Rect.unit (s := S4096x256) off ![rows s, 256] hin)).Stores Finset.univ}
    {hm : (Finset.univ : Finset (Rect.unit (s := S4096x256) off ![rows s, 256] hin).shape.Idx) = Finset.univ ∨ ∀ a, (Rect.unit (s := S4096x256) off ![rows s, 256] hin).stride a = 1}
    {k : PUnit → Prog (TpuEff nD τ sig (Elt F) Λ₀ .tc) α}
    (hk : St m ρ K c { σ with dn := Function.update σ.dn (s, M) true } ⊢ WP c (k ⟨⟩) Q) :
    St m ρ K c σ ⊢ WP c (.op (.store outM (Rect.unit (s := S4096x256) off ![rows s, 256] hin) w Finset.univ hx hm) k) Q := by
  subst ho hw
  unfold St outI at hk ⊢
  iintro ⟨#HR, #HL, HO, HS, HV, HH, HW, HU, HG⟩
  icases HU with ⟨%f, %hf, HU⟩
  iapply (wp_store 𝒱₀ (c : Thread nD τ) none Set.univ (m := outM) (r := outR s (xr c M)) (S := Finset.univ) (f := f) (w := cmpv m ρ c s (xr c M)) (Mk := Finset.univ) (hx := hx) (hm := hm) (k := k) (Finset.subset_univ _)) $$ [HU]
  · iexact HU
  iintro HU
  iapply hk
  isplitr; · iexact HR
  isplitr; · iexact HL
  isplitl [HO]; · iexact HO
  isplitl [HS]; · iexact HS
  isplitl [HV]; · iexact HV
  isplitl [HH]; · iexact HH
  isplitl [HW]; · iexact HW
  isplitl [HU]
  · iexists _
    isplitr
    · ipureintro; exact outOk_write m ρ c σ.dn f hf s M
    iexact HU
  iexact HG

end Cert.KernelIdealProof

end
-- ==== Proof.KernelIdealRun.lean ====
/-
The order in which a device runs its operations, the states it passes through, and the step of each operation from
the state with its number to the next.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Events -/

/-- What changes a device's state: transfer `t` started, waited for to be read, waited for to arrive; the own slot of
    stream `s` filled; the copy of `w` made; the block of the output of slot `c ^ M`, stream `s`, written. -/
inductive Ev where
  | send (t : T) | ws (t : T) | wr (t : T) | own (s : Fin 3) | cp | out (s : Fin 3) (M : Fin 8)

/-- The pieces held of a slot. -/
def held (σ : Sg) (u : Fin 3 × Fin 8) : Fin 4 → Bool := (σ.hd u).getD fun _ => false

/-- The state after an event. -/
def Sg.next (σ : Sg) : Ev → Sg
  | .send t => { σ with ph := Function.update σ.ph t 1, hd := Function.update σ.hd (t.1, mC t) (some (Function.update (held σ (t.1, mC t)) (pc t) false)) }
  | .ws t => { σ with ph := Function.update σ.ph t 2, hd := Function.update σ.hd (t.1, mC t) (some (Function.update (held σ (t.1, mC t)) (pc t) true)) }
  | .wr t => { σ with rp := Function.update σ.rp t true, hd := Function.update σ.hd (t.1, mM t) (some (fun _ => true)) }
  | .own s => { σ with hd := Function.update σ.hd (s, 0) (some (fun _ => true)) }
  | .cp => { σ with w8 := true }
  | .out s M => { σ with dn := Function.update σ.dn (s, M) true }

/-- When an event may happen. -/
def Sg.ok (σ : Sg) : Ev → Prop
  | .send t => σ.ph t = 0 ∧ (σ.hd (t.1, mC t)).isSome = true ∧ held σ (t.1, mC t) (pc t) = true
  | .ws t => σ.ph t = 1 ∧ (σ.hd (t.1, mC t)).isSome = true ∧ held σ (t.1, mC t) (pc t) = false
  | .wr t => σ.rp t = false ∧ (σ.hd (t.1, mM t)).isSome = true ∧ (∀ j, held σ (t.1, mM t) j = false) ∧ ∀ u, uns σ.ph u = true → lvT t < lvT u
  | .own s => (σ.hd (s, 0)).isNone = true
  | .cp => σ.w8 = false
  | .out _ _ => True

instance (σ : Sg) (e : Ev) : Decidable (σ.ok e) := by
  cases e <;> unfold Sg.ok <;> infer_instance

/-- Past the barrier: nothing sent or received, every slot but the own to be received. -/
def sg₀ : Sg where
  ph _ := 0
  rp _ := false
  hd u := if u.2 = 0 then none else some fun _ => false
  w8 := false
  dn _ := false

/-- The kernel's events in order. -/
def evs : List Ev :=
  [.own 0, .send (0, 0), .own 1, .send (1, 0), .own 2, .send (2, 0), .send (0, 1), .send (1, 1), .send (2, 1),
   .cp, .out 0 0, .out 1 0, .out 2 0,
   .ws (0, 0), .wr (0, 0), .send (0, 2), .ws (1, 0), .wr (1, 0), .send (1, 2), .ws (2, 0), .wr (2, 0), .send (2, 2),
   .send (0, 3), .send (0, 4), .send (1, 3), .send (1, 4), .send (2, 3), .send (2, 4),
   .out 0 1, .out 1 3, .out 2 4,
   .ws (0, 1), .wr (0, 1), .ws (0, 2), .wr (0, 2), .send (0, 5), .send (0, 6),
   .ws (1, 1), .wr (1, 1), .ws (1, 2), .wr (1, 2), .send (1, 5), .send (1, 6),
   .ws (2, 1), .wr (2, 1), .ws (2, 2), .wr (2, 2), .send (2, 5), .send (2, 6),
   .out 0 3, .out 0 2, .out 1 4, .out 1 7, .out 2 1, .out 2 5,
   .ws (2, 3), .wr (2, 3), .out 2 3, .ws (1, 3), .wr (1, 3), .out 1 1, .ws (0, 3), .wr (0, 3), .out 0 4,
   .ws (2, 4), .wr (2, 4), .out 2 7, .ws (1, 4), .wr (1, 4), .out 1 2, .ws (0, 4), .wr (0, 4), .out 0 5,
   .ws (2, 5), .wr (2, 5), .out 2 2, .ws (1, 5), .wr (1, 5), .out 1 5, .ws (0, 5), .wr (0, 5), .out 0 6,
   .ws (2, 6), .wr (2, 6), .out 2 6, .ws (1, 6), .wr (1, 6), .out 1 6, .ws (0, 6), .wr (0, 6), .out 0 7]

/-- The state after the first `n` events. -/
def sg : ℕ → Sg
  | 0 => sg₀
  | n + 1 => match evs[n]? with
    | some e => (sg n).next e
    | none => sg n

theorem sg_succ {n : ℕ} {e : Ev} (h : evs[n]? = some e) : sg (n + 1) = (sg n).next e := by
  show (match evs[n]? with | some e => (sg n).next e | none => sg n) = _
  rw [h]

/-- Every event happens when it may. -/
theorem all_ok : ∀ n : Fin 91, ∀ e ∈ evs[n.val]?, (sg n.val).ok e := by decide +kernel

theorem ok_at {n : ℕ} {e : Ev} (h : evs[n]? = some e) : (sg n).ok e := by
  have hl : n < evs.length := by
    by_contra hn
    rw [List.getElem?_eq_none (Nat.le_of_not_lt hn)] at h
    cases h
  exact all_ok ⟨n, hl⟩ e h

theorem held_eq {σ : Sg} {u : Fin 3 × Fin 8} (h : (σ.hd u).isSome = true) : σ.hd u = some (held σ u) := by
  unfold held
  obtain ⟨b, hb⟩ := Option.isSome_iff_exists.mp h
  rw [hb]; rfl

/-- At the end all transfers are done, all pieces are back, the copy is made and the whole output written. -/
theorem sg_end : (∀ t, (sg 91).ph t = 2) ∧ (∀ t, (sg 91).rp t = true) ∧ (∀ u, (sg 91).hd u = some fun _ => true) ∧ (sg 91).w8 = true
    ∧ ∀ u, (sg 91).dn u = true := by
  decide +kernel

/-! ## The steps by number -/

variable (K : Dev nD × CI → ℕ) (c : Dev nD)

theorem slot_eq (s : Fin 3) {k : Fin 8} {off : Fin 3 → Nat} {hin : ∀ a, off a + (![1, rows s, 4096] : Fin 3 → Nat) a ≤ (SB s).size a}
    {hs : ∀ a, (Rect.unit (s := SB s) off ![1, rows s, 4096] hin).stride a = 1} {hq : (Rect.unit (s := SB s) off ![1, rows s, 4096] hin).shape.Squeezes (SR s)} (ho : off = ![k.val, 0, 0]) :
    ((bufM s).slice (Rect.unit (s := SB s) off ![1, rows s, 4096] hin) hs).squeeze (SR s) hq = slotM s k := by
  subst ho; rfl

theorem ev_send {α : Type} {Q : α → sProp 𝕄} (n : ℕ) (t : T) (he : evs[n]? = some (.send t))
    {d : Dev nD} (hd : d = xr c (mE t)) {v : Memref sig .tc .vmem (SR t.1) .fp8e4m3} (hv : v = slotM t.1 (xr c (mC t)))
    {qs qr : DmaSem sig} (hqs : qs = sendS t) (hqr : qr = recvS t)
    {hsc : (v : Memref sig (Dev.tc d : Thread nD τ).2.kind .vmem (SR t.1) .fp8e4m3).view.ref.isScScratch = false}
    {hsrc : v.view.WordExact} {hdst : v.view.WordExact}
    {hsem : DmaTarget.Typed .vmem (.dma qr) (.remote (Dev.tc d : Thread nD τ) v (.dma qs) hsc)}
    {k : PUnit → Prog (TpuEff nD τ sig (Elt F) Λ₀ .tc) α}
    (hk : St m ρ K c (sg (n + 1)) ⊢ WP c (k ⟨⟩) Q) :
    St m ρ K c (sg n) ⊢ WP c (.op (.enqueueDma v (.remote (Dev.tc d : Thread nD τ) v (.dma qs) hsc) (.dma qr) hsrc hdst hsem) k) Q := by
  obtain ⟨h0, h1, h2⟩ := ok_at he
  rw [sg_succ he] at hk
  exact step_send m ρ K c (sg n) t (held (sg n) (t.1, mC t)) h0 (held_eq h1) h2 hd hv hqs hqr hk

theorem ev_ws {α : Type} {Q : α → sProp 𝕄} (n : ℕ) (t : T) (he : evs[n]? = some (.ws t))
    {q : DmaSem sig} (hq : q = sendS t) {src dst : Memref sig .tc .vmem (SR t.1) .fp8e4m3} (hN : dst.view.dmaCredit = N t.1)
    {hsrc : src.view.WordExact} {hdst : dst.view.WordExact} {k : PUnit → Prog (TpuEff nD τ sig (Elt F) Λ₀ .tc) α}
    (hk : St m ρ K c (sg (n + 1)) ⊢ WP c (k ⟨⟩) Q) :
    St m ρ K c (sg n) ⊢ WP c (.op (.waitDma2 q src dst hsrc hdst) k) Q := by
  obtain ⟨h0, h1, h2⟩ := ok_at he
  rw [sg_succ he] at hk
  exact step_ws m ρ K c (sg n) t (held (sg n) (t.1, mC t)) h0 (held_eq h1) h2 hq hN hk

theorem ev_wr {α : Type} {Q : α → sProp 𝕄} (n : ℕ) (t : T) (he : evs[n]? = some (.wr t))
    {q : DmaSem sig} (hq : q = recvS t) {src dst : Memref sig .tc .vmem (SR t.1) .fp8e4m3} (hN : dst.view.dmaCredit = N t.1)
    {hsrc : src.view.WordExact} {hdst : dst.view.WordExact} {k : PUnit → Prog (TpuEff nD τ sig (Elt F) Λ₀ .tc) α}
    (hk : St m ρ K c (sg (n + 1)) ⊢ WP c (k ⟨⟩) Q) :
    St m ρ K c (sg n) ⊢ WP c (.op (.waitDma2 q src dst hsrc hdst) k) Q := by
  obtain ⟨h0, h1, h2, h3⟩ := ok_at he
  rw [sg_succ he] at hk
  exact step_wr m ρ K c (sg n) t h0 ((held_eq h1).trans (congrArg some (funext h2))) h3 hq hN hk

theorem ev_load {α : Type} {Q : α → sProp 𝕄} (n : ℕ) (s : Fin 3) (M : Fin 8) (hb : ((sg n).hd (s, M)).isSome = true ∧ held (sg n) (s, M) 0 = true)
    {off : Fin 3 → Nat} {hin : ∀ a, off a + (![1, rows s, 4096] : Fin 3 → Nat) a ≤ (SB s).size a}
    (ho : off = ![(xr c M).val, 0, 0]) {hl : (bufM s).view.LoadsAt (Rect.unit (s := SB s) off ![1, rows s, 4096] hin).toLoadRect}
    {k : ((slotR s (xr c M)).shape.Idx → Elt F .fp8e4m3) → Prog (TpuEff nD τ sig (Elt F) Λ₀ .tc) α}
    (hk : St m ρ K c (sg n) ⊢ WP c (k (blk m ρ s (xr c M))) Q) :
    St m ρ K c (sg n) ⊢ WP c (.op (.load (bufM s) (Rect.unit (s := SB s) off ![1, rows s, 4096] hin).toLoadRect hl) k) Q :=
  step_load m ρ K c (sg n) s M _ (held_eq hb.1) hb.2 rfl ho hk

theorem ev_dead {α : Type} {Q : α → sProp 𝕄} (n : ℕ) (s : Fin 3) (he : evs[n]? = some (.own s))
    {off : Fin 3 → Nat} {hin : ∀ a, off a + (![1, rows s, 4096] : Fin 3 → Nat) a ≤ (SB s).size a}
    (ho : off = ![(xr c 0).val, 0, 0]) {hl : (bufM s).view.LoadsAt (Rect.unit (s := SB s) off ![1, rows s, 4096] hin).toLoadRect}
    {k : ((slotR s (xr c 0)).shape.Idx → Elt F .fp8e4m3) → Prog (TpuEff nD τ sig (Elt F) Λ₀ .tc) α}
    (hk : ∀ x, St m ρ K c (sg n) ⊢ WP c (k x) Q) :
    St m ρ K c (sg n) ⊢ WP c (.op (.load (bufM s) (Rect.unit (s := SB s) off ![1, rows s, 4096] hin).toLoadRect hl) k) Q :=
  step_dead m ρ K c (sg n) s (Option.isNone_iff_eq_none.mp (ok_at he)) rfl ho hk

theorem ev_own {α : Type} {Q : α → sProp 𝕄} (n : ℕ) (s : Fin 3) (he : evs[n]? = some (.own s))
    {off : Fin 3 → Nat} {hin : ∀ a, off a + (![1, rows s, 4096] : Fin 3 → Nat) a ≤ (SB s).size a}
    (ho : off = ![(xr c 0).val, 0, 0]) {w : (slotR s c).shape.Idx → Elt F .fp8e4m3} (hw : w = blk m ρ s c)
    {hx : ((bufM s).access (Rect.unit (s := SB s) off ![1, rows s, 4096] hin)).Stores Finset.univ}
    {hm : (Finset.univ : Finset (Rect.unit (s := SB s) off ![1, rows s, 4096] hin).shape.Idx) = Finset.univ ∨ ∀ a, (Rect.unit (s := SB s) off ![1, rows s, 4096] hin).stride a = 1}
    {k : PUnit → Prog (TpuEff nD τ sig (Elt F) Λ₀ .tc) α}
    (hk : St m ρ K c (sg (n + 1)) ⊢ WP c (k ⟨⟩) Q) :
    St m ρ K c (sg n) ⊢ WP c (.op (.store (bufM s) (Rect.unit (s := SB s) off ![1, rows s, 4096] hin) w Finset.univ hx hm) k) Q := by
  rw [sg_succ he] at hk
  exact step_own m ρ K c (sg n) s (Option.isNone_iff_eq_none.mp (ok_at he)) rfl ho hw hk

theorem ev_w8_dead {α : Type} {Q : α → sProp 𝕄} (n : ℕ) (he : evs[n]? = some .cp) {r : LoadRect S4096x256} {hl : w8M.view.LoadsAt r}
    {k : (r.shape.Idx → Elt F .fp8e4m3) → Prog (TpuEff nD τ sig (Elt F) Λ₀ .tc) α}
    (hk : ∀ x, St m ρ K c (sg n) ⊢ WP c (k x) Q) :
    St m ρ K c (sg n) ⊢ WP c (.op (.load w8M r hl) k) Q :=
  step_w8_dead m ρ K c (sg n) (ok_at he) hk

theorem ev_cp {α : Type} {Q : α → sProp 𝕄} (n : ℕ) (he : evs[n]? = some .cp) {w : r88.shape.Idx → Elt F .fp8e4m3} (hw : w = w8v m ρ c)
    {hx : (w8M.access r88).Stores Finset.univ} {hm : (Finset.univ : Finset r88.shape.Idx) = Finset.univ ∨ ∀ a, r88.stride a = 1}
    {k : PUnit → Prog (TpuEff nD τ sig (Elt F) Λ₀ .tc) α}
    (hk : St m ρ K c (sg (n + 1)) ⊢ WP c (k ⟨⟩) Q) :
    St m ρ K c (sg n) ⊢ WP c (.op (.store w8M r88 w Finset.univ hx hm) k) Q := by
  rw [sg_succ he] at hk
  exact step_w8_store m ρ K c (sg n) (ok_at he) hw hk

theorem sg_w8 (n : ℕ) (hn : 10 ≤ n) : (sg n).w8 = true := by
  induction n with
  | zero => omega
  | succ n ih =>
    rcases Nat.lt_or_ge n 10 with h | h
    · obtain rfl : n = 9 := by omega
      decide +kernel
    · have h2 := ih h
      show (match evs[n]? with | some e => (sg n).next e | none => sg n).w8 = true
      rcases evs[n]? with _ | e
      · exact h2
      · cases e <;> first | exact h2 | rfl

theorem ev_w8 {α : Type} {Q : α → sProp 𝕄} (n : ℕ) (hn : 10 ≤ n) {hl : w8M.view.LoadsAt r88.toLoadRect}
    {k : (r88.shape.Idx → Elt F .fp8e4m3) → Prog (TpuEff nD τ sig (Elt F) Λ₀ .tc) α}
    (hk : St m ρ K c (sg n) ⊢ WP c (k (w8v m ρ c)) Q) :
    St m ρ K c (sg n) ⊢ WP c (.op (.load w8M r88.toLoadRect hl) k) Q :=
  step_w8 m ρ K c (sg n) (sg_w8 n hn) hk

theorem ev_out {α : Type} {Q : α → sProp 𝕄} (n : ℕ) (s : Fin 3) (M : Fin 8) (he : evs[n]? = some (.out s M))
    {off : Fin 2 → Nat} {hin : ∀ a, off a + (![rows s, 256] : Fin 2 → Nat) a ≤ S4096x256.size a} (ho : off = ![512 * (xr c M).val + offs s, 0])
    {w : (outR s (xr c M)).shape.Idx → Elt F .f32} (hw : w = cmpv m ρ c s (xr c M))
    {hx : (outM.access (Rect.unit (s := S4096x256) off ![rows s, 256] hin)).Stores Finset.univ}
    {hm : (Finset.univ : Finset (Rect.unit (s := S4096x256) off ![rows s, 256] hin).shape.Idx) = Finset.univ ∨ ∀ a, (Rect.unit (s := S4096x256) off ![rows s, 256] hin).stride a = 1}
    {k : PUnit → Prog (TpuEff nD τ sig (Elt F) Λ₀ .tc) α}
    (hk : St m ρ K c (sg (n + 1)) ⊢ WP c (k ⟨⟩) Q) :
    St m ρ K c (sg n) ⊢ WP c (.op (.store outM (Rect.unit (s := S4096x256) off ![rows s, 256] hin) w Finset.univ hx hm) k) Q := by
  rw [sg_succ he] at hk
  exact step_out m ρ K c (sg n) s M ho hw hk

/-! ## The offsets and devices the kernel computes -/

theorem off1 : k0_off1 c = ![(xr c 0).val, 0, 0] := by revert c; decide +kernel
theorem off3 : k0_off3 c = ![(xr c 0).val, 0, 0] := by revert c; decide +kernel
theorem off2 (M : Fin 8) : k0_off2 c (BitVec.ofNat 32 M.val) = ![(xr c M).val, 0, 0] := by revert c M; decide +kernel
theorem off4 (M : Fin 8) : k0_off4 c (BitVec.ofNat 32 M.val) = ![(xr c M).val, 0, 0] := by revert c M; decide +kernel
theorem off7 (M : Fin 8) : k0_off7 c (BitVec.ofNat 32 M.val) = ![(xr c M).val, 0, 0] := by revert c M; decide +kernel
theorem off9 : k0_off9 c = ![(xr c 4).val, 0, 0] := by revert c; decide +kernel
theorem off11 (a b : Fin 8) : k0_off11 c (BitVec.ofNat 32 a.val) (BitVec.ofNat 32 b.val) = ![(xr c (xr a b)).val, 0, 0] := by revert c a b; decide +kernel
theorem off13 (a b : Fin 8) : k0_off13 c (BitVec.ofNat 32 a.val) (BitVec.ofNat 32 b.val) = ![(xr c (xr a b)).val, 0, 0] := by revert c a b; decide +kernel
theorem off5 (s : Fin 3) : k0_off5 c (BitVec.ofNat 32 (offs s)) = ![512 * (xr c 0).val + offs s, 0] := by revert c s; decide +kernel
theorem off6 : k0_off6 c = ![512 * (xr c 0).val + offs 2, 0] := by revert c; decide +kernel
theorem off8 (M : Fin 8) (s : Fin 3) : k0_off8 c (BitVec.ofNat 32 M.val) (BitVec.ofNat 32 (offs s)) = ![512 * (xr c M).val + offs s, 0] := by revert c M s; decide +kernel
theorem off10 : k0_off10 c = ![512 * (xr c 4).val + offs 2, 0] := by revert c; decide +kernel
theorem off12 (a b : Fin 8) (s : Fin 3) : k0_off12 c (BitVec.ofNat 32 a.val) (BitVec.ofNat 32 b.val) (BitVec.ofNat 32 (offs s)) = ![512 * (xr c (xr a b)).val + offs s, 0] := by
  revert c a b s; decide +kernel
theorem off14 (a b : Fin 8) : k0_off14 c (BitVec.ofNat 32 a.val) (BitVec.ofNat 32 b.val) = ![512 * (xr c (xr a b)).val + offs 2, 0] := by revert c a b; decide +kernel

theorem dev1 : (⟨k0_dev1 c, k0_dev1_lt c⟩ : Dev nD) = xr c 1 := by revert c; decide +kernel
theorem dev2 : (⟨k0_dev2 c, k0_dev2_lt c⟩ : Dev nD) = xr c 3 := by revert c; decide +kernel
theorem dev3 : (⟨k0_dev3 c, k0_dev3_lt c⟩ : Dev nD) = xr c 4 := by revert c; decide +kernel
theorem dev4 : (⟨k0_dev4 c, k0_dev4_lt c⟩ : Dev nD) = xr c 1 := by revert c; decide +kernel
theorem dev5 : (⟨k0_dev5 c, k0_dev5_lt c⟩ : Dev nD) = xr c 3 := by revert c; decide +kernel
theorem dev6 : (⟨k0_dev6 c, k0_dev6_lt c⟩ : Dev nD) = xr c 4 := by revert c; decide +kernel
theorem dev7 : (⟨k0_dev7 c, k0_dev7_lt c⟩ : Dev nD) = xr c 3 := by revert c; decide +kernel
theorem dev8 : (⟨k0_dev8 c, k0_dev8_lt c⟩ : Dev nD) = xr c 4 := by revert c; decide +kernel
theorem dev9 : (⟨k0_dev9 c, k0_dev9_lt c⟩ : Dev nD) = xr c 1 := by revert c; decide +kernel
theorem dev10 : (⟨k0_dev10 c, k0_dev10_lt c⟩ : Dev nD) = xr c 3 := by revert c; decide +kernel
theorem dev11 : (⟨k0_dev11 c, k0_dev11_lt c⟩ : Dev nD) = xr c 4 := by revert c; decide +kernel
theorem dev12 : (⟨k0_dev12 c, k0_dev12_lt c⟩ : Dev nD) = xr c 1 := by revert c; decide +kernel
theorem dev13 : (⟨k0_dev13 c, k0_dev13_lt c⟩ : Dev nD) = xr c 4 := by revert c; decide +kernel
theorem dev14 : (⟨k0_dev14 c, k0_dev14_lt c⟩ : Dev nD) = xr c 4 := by revert c; decide +kernel
theorem dev15 : (⟨k0_dev15 c, k0_dev15_lt c⟩ : Dev nD) = xr c 1 := by revert c; decide +kernel
theorem dev16 : (⟨k0_dev16 c, k0_dev16_lt c⟩ : Dev nD) = xr c 1 := by revert c; decide +kernel
theorem dev17 : (⟨k0_dev17 c, k0_dev17_lt c⟩ : Dev nD) = xr c 3 := by revert c; decide +kernel
theorem dev18 : (⟨k0_dev18 c, k0_dev18_lt c⟩ : Dev nD) = xr c 3 := by revert c; decide +kernel
theorem dev19 : (⟨k0_dev19 c, k0_dev19_lt c⟩ : Dev nD) = xr c 4 := by revert c; decide +kernel
theorem dev20 : (⟨k0_dev20 c, k0_dev20_lt c⟩ : Dev nD) = xr c 4 := by revert c; decide +kernel
theorem dev21 : (⟨k0_dev21 c, k0_dev21_lt c⟩ : Dev nD) = xr c 1 := by revert c; decide +kernel
theorem dev22 : (⟨k0_dev22 c, k0_dev22_lt c⟩ : Dev nD) = xr c 1 := by revert c; decide +kernel
theorem dev23 : (⟨k0_dev23 c, k0_dev23_lt c⟩ : Dev nD) = xr c 3 := by revert c; decide +kernel
theorem dev24 : (⟨k0_dev24 c, k0_dev24_lt c⟩ : Dev nD) = xr c 3 := by revert c; decide +kernel

/-- A program that returns at once. -/
theorem ret_step {α : Type} {Q : α → sProp 𝕄} {P : sProp 𝕄} {a : α} (h : P ⊢ Q a) : P ⊢ WP c (.ret a) Q := by
  show P ⊢ wp frame (wpE (defs₀ (F := F)) 𝒱₀ (c : Thread nD τ) none) Set.univ (.ret a) Q
  rw [wp_ret]
  exact h.trans fupd_intro

abbrev aM : Memref sig .tc .vmem S8x176x4096 .fp8e4m3 := Memref.whole cc0_scratch0
abbrev bM : Memref sig .tc .vmem S8x176x4096 .fp8e4m3 := Memref.whole cc0_scratch1
abbrev cM : Memref sig .tc .vmem S8x160x4096 .fp8e4m3 := Memref.whole cc0_scratch2

end Cert.KernelIdealProof

end
-- ==== Proof.KernelIdealStart.lean ====
/-
How a device enters the kernel: its buffers cut into slots, the slots handed to the neighbours at the barrier,
and theirs received.
-/
module

public import proofs.«01_k».proof.Proof.KernelIdealRun

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## The slots of a buffer -/

/-- A buffer's whole cut into eight disjoint sets. -/
theorem pts_cut (ℓ : Loc nD τ sig) (f : Buf (Elt F) ℓ) (S : Fin 8 → Finset (Idx ℓ)) (hu : ∀ i, ∃ M, i ∈ S M) (hd : ∀ a b, a ≠ b → Disjoint (S a) (S b)) :
    (ℓ ↦{fullShare} f : sProp 𝕄) = bigSep Finset.univ fun M : Fin 8 => ℓ ↦[S M]{fullShare} f := by
  have h : (Finset.univ : Finset (Idx ℓ)) = Finset.univ.biUnion S :=
    Finset.ext fun i => ⟨fun _ => by obtain ⟨M, hM⟩ := hu i; exact Finset.mem_biUnion.mpr ⟨M, Finset.mem_univ _, hM⟩, fun _ => Finset.mem_univ _⟩
  show (ℓ ↦[Finset.univ]{fullShare} f) = _
  rw [h]
  exact pointsTo_biUnion Finset.univ S fun a _ b _ hab => hd a b hab

theorem slots_cover (s : Fin 3) (i : (bufM s).view.ref.ty.Idx) : ∃ M : Fin 8, i ∈ (slotM s (xr c M)).view.set := by
  obtain ⟨x, rfl⟩ := buf_surj s i
  exact ⟨xr c (x 0), (mem_slot s _ x).mpr (xr_cancel c (x 0)).symm⟩

theorem slots_disjoint (s : Fin 3) (a b : Fin 8) (hab : a ≠ b) : Disjoint (slotM s (xr c a)).view.set (slotM s (xr c b)).view.set := by
  refine Finset.disjoint_left.mpr fun i hi hj => ?_
  have h : ∀ i : (bufM s).view.ref.ty.Idx, i ∈ (slotM s (xr c a)).view.set → i ∈ (slotM s (xr c b)).view.set → False := fun i hi hj => by
    obtain ⟨x, rfl⟩ := buf_surj s i
    exact hab (xr_inj (((mem_slot s _ x).mp hi).symm.trans ((mem_slot s _ x).mp hj)))
  exact h i hi hj

/-- A stream's buffer is its eight slots. -/
theorem buf_slots (s : Fin 3) (f : (bufM s).view.ref.ty.Contents (Elt F)) :
    ((((bufM s).view.loc (c : Thread nD τ)) ↦{fullShare} f : sProp 𝕄)) = bigSep Finset.univ fun M : Fin 8 => slotPts c s (xr c M) fullShare f :=
  pts_cut ((bufM s).view.loc (c : Thread nD τ)) f (fun M => (slotM s (xr c M)).view.set) (slots_cover c s) (slots_disjoint c s)

/-- The three buffers at any contents are all their slots at any contents. -/
theorem all_slots :
    (bigSep Finset.univ fun s : Fin 3 => iprop(∃ f : (bufM s).view.ref.ty.Contents (Elt F), ((bufM s).view.loc (c : Thread nD τ)) ↦{fullShare} f) : sProp 𝕄)
      ⊢ bigSep Finset.univ fun u : Fin 3 × Fin 8 => sltI m ρ c u none := by
  have h1 : ∀ (s : Fin 3) (f : (bufM s).view.ref.ty.Contents (Elt F)) (M : Fin 8), slotPts c s (xr c M) fullShare f ⊢ sltI m ρ c (s, M) none := fun s f M => by
    show slotPts c s (xr c M) fullShare f ⊢ iprop(∃ f, slotPts c s (xr c M) fullShare f)
    iintro H
    iexists f
    iexact H
  have h2 : ∀ s : Fin 3, (iprop(∃ f : (bufM s).view.ref.ty.Contents (Elt F), ((bufM s).view.loc (c : Thread nD τ)) ↦{fullShare} f) : sProp 𝕄)
      ⊢ bigSep Finset.univ fun M : Fin 8 => sltI m ρ c (s, M) none := fun s => by
    iintro ⟨%f, H⟩
    iapply ((Entails.of_eq (buf_slots c s f)).trans (bigSep_mono fun M _ => h1 s f M))
    iexact H
  rw [bigSep_univ_prod]
  exact bigSep_mono fun s _ => h2 s

/-- All their slots filled are the three buffers filled. -/
theorem slots_full :
    (bigSep Finset.univ fun u : Fin 3 × Fin 8 => sltI m ρ c u (some fun _ => true))
      ⊢ (bigSep Finset.univ fun s : Fin 3 => iprop(∃ f : (bufM s).view.ref.ty.Contents (Elt F), ((bufM s).view.loc (c : Thread nD τ)) ↦{fullShare} f) : sProp 𝕄) := by
  have h2 : ∀ s : Fin 3, (((bufM s).view.loc (c : Thread nD τ)) ↦{fullShare} G m ρ s : sProp 𝕄)
      ⊢ iprop(∃ f : (bufM s).view.ref.ty.Contents (Elt F), ((bufM s).view.loc (c : Thread nD τ)) ↦{fullShare} f) := fun s => by
    iintro H
    iexists (G m ρ s)
    iexact H
  rw [bigSep_univ_prod]
  refine bigSep_mono fun s _ => ?_
  have h : (bigSep Finset.univ fun M : Fin 8 => sltI m ρ c (s, M) (some fun _ => true)) = ((((bufM s).view.loc (c : Thread nD τ)) ↦{fullShare} G m ρ s : sProp 𝕄)) := by
    rw [buf_slots]
    exact bigSep_congr fun M _ => (pieces m ρ c (s, M)).symm
  exact (Entails.of_eq h).trans (h2 s)

/-! ## Transfers by neighbour -/

/-- A family over the transfers, grouped by the neighbour each goes to. -/
theorem by_nb (Φ : T → sProp 𝕄) :
    bigSep Finset.univ Φ = bigSep Finset.univ fun e : Fin 3 => bigSep (Finset.univ.filter fun t : T => eT t = e) Φ := by
  rw [bigSep_univ_eq_bigSepL [(0 : Fin 3), 1, 2] (by decide) (by decide)]
  have h : (Finset.univ : Finset T) = (Finset.univ.filter fun t : T => eT t = 0) ∪ ((Finset.univ.filter fun t : T => eT t = 1) ∪ (Finset.univ.filter fun t : T => eT t = 2)) := by decide
  have h1 : Disjoint (Finset.univ.filter fun t : T => eT t = 0) ((Finset.univ.filter fun t : T => eT t = 1) ∪ (Finset.univ.filter fun t : T => eT t = 2)) := by decide
  have h2 : Disjoint (Finset.univ.filter fun t : T => eT t = 1) (Finset.univ.filter fun t : T => eT t = 2) := by decide
  exact ((congrArg (fun s => bigSep s Φ) h).trans (bigSep_union h1)).trans (congrArg _ (bigSep_union h2))

theorem nb_at {e : Fin 3} {t : T} (h : t ∈ Finset.univ.filter fun t : T => eT t = e) : nb e = mE t := by
  rw [← (Finset.mem_filter.mp h).2]; exact nb_eT t

/-- What the neighbours hand over at the barrier: every transfer's landing slot. -/
theorem landing : (bigSep Finset.univ fun e : Fin 3 => (barPay c e : sProp 𝕄))
    = bigSep Finset.univ fun t : T => iprop(∃ f, slotPts (xr c (mE t)) t.1 (xr c (mC t)) fullShare f) := by
  rw [by_nb]
  refine bigSep_congr fun e _ => bigSep_congr fun t ht => ?_
  rw [nb_at ht]

def recvMap : T ↪ Fin 3 × Fin 8 := ⟨fun t => (t.1, mM t), by decide⟩

/-- The device's slots dealt: the own ones kept, each other one to the neighbour that fills it. -/
theorem deal : (bigSep Finset.univ fun u : Fin 3 × Fin 8 => sltI m ρ c u none)
    ⊢ iprop((bigSep Finset.univ fun u : Fin 3 × Fin 8 => sltI m ρ c u (sg₀.hd u)) ∗ bigSep Finset.univ fun e : Fin 3 => barPay (xr c (nb e)) e) := by
  have hs : ∀ Φ : Fin 3 × Fin 8 → sProp 𝕄, bigSep Finset.univ Φ
      = iprop(bigSep (Finset.univ.filter fun u : Fin 3 × Fin 8 => u.2 = 0) Φ ∗ bigSep (Finset.univ.filter fun u : Fin 3 × Fin 8 => ¬ u.2 = 0) Φ) := fun Φ => bigSep_filter_split Finset.univ _
  rw [hs, hs fun u => sltI m ρ c u (sg₀.hd u)]
  have h0 : bigSep (Finset.univ.filter fun u : Fin 3 × Fin 8 => u.2 = 0) (fun u => sltI m ρ c u (sg₀.hd u)) = bigSep (Finset.univ.filter fun u : Fin 3 × Fin 8 => u.2 = 0) (fun u => sltI m ρ c u none) :=
    bigSep_congr fun u hu => by
      have : u.2 = 0 := (Finset.mem_filter.mp hu).2
      show sltI m ρ c u (if u.2 = 0 then none else some fun _ => false) = _
      rw [if_pos this]
  have h1 : bigSep (Finset.univ.filter fun u : Fin 3 × Fin 8 => ¬ u.2 = 0) (fun u => sltI m ρ c u (sg₀.hd u)) = iprop(emp) := by
    refine (bigSep_congr fun u hu => ?_).trans (bigSep_emp_const _)
    have : ¬ u.2 = 0 := (Finset.mem_filter.mp hu).2
    show sltI m ρ c u (if u.2 = 0 then none else some fun _ => false) = _
    rw [if_neg this]
    exact (no_pieces m ρ c u).symm
  have h2 : bigSep (Finset.univ.filter fun u : Fin 3 × Fin 8 => ¬ u.2 = 0) (fun u => sltI m ρ c u none) = bigSep Finset.univ fun e : Fin 3 => barPay (xr c (nb e)) e := by
    have hm : (Finset.univ.filter fun u : Fin 3 × Fin 8 => ¬ u.2 = 0) = (Finset.univ : Finset T).map recvMap := by decide
    rw [hm, bigSep_map, by_nb]
    refine bigSep_congr fun e _ => bigSep_congr fun t ht => ?_
    show iprop(∃ f, slotPts c t.1 (xr c (mM t)) fullShare f) = iprop(∃ f, slotPts (xr (xr c (nb e)) (nb e)) t.1 (xr (xr c (nb e)) (mC t)) fullShare f)
    rw [nb_at ht, xr_xr, xr_assoc]
    rfl
  rw [h0, h1, h2]
  iintro ⟨H0, H1⟩
  isplitl [H0]
  · isplitl [H0]; · iexact H0
    iempintro
  iexact H1

/-! ## Before the barrier -/

def O₂ (c : Dev nD) : CellTallies nD τ sig Unit := owe c (fun _ => true) + tallyAt (barCell (xr c 4)) () 1
def O₁ (c : Dev nD) : CellTallies nD τ sig Unit := O₂ c + tallyAt (barCell (xr c 3)) () 1
/-- What a device owes at launch: its transfers' receive credits and one unit of each neighbour's barrier. -/
def O₀ (c : Dev nD) : CellTallies nD τ sig Unit := O₁ c + tallyAt (barCell (xr c 1)) () 1

/-- What a transfer needs of its sender from the launch: its two duty tokens, and the send cell's place. -/
def tokI (c : Dev nD) (t : T) : sProp 𝕄 := iprop(dutyTok ER (sendCell c t) 0 0 ∗ dutyTok ER (recvCell (xr c (mE t)) t) 0 0 ∗ atPos ER (sendCell c t) 0 ∅ 0)
/-- The barrier's part: its credit, its place, the tokens of the neighbours' barriers. -/
def barI (c : Dev nD) : sProp 𝕄 := iprop(cred (tallyAt (barCell c) () 3) ∗ atPos ER (barCell c) 0 ∅ 0 ∗ bigSep Finset.univ fun e : Fin 3 => dutyTok ER (barCell (xr c (nb e))) 0 e)

/-- The state in which a device enters the kernel. -/
def pre : sProp 𝕄 :=
  iprop(records m ρ K ∗ levAts L lv ∗ (∃ W, owes (c : Thread nD τ) (O₀ c) W) ∗ barI c ∗ bigSep Finset.univ (fun t => tokI c t) ∗ bigSep Finset.univ (fun t => rcvI c t false)
    ∗ (bigSep Finset.univ fun s : Fin 3 => iprop(∃ f : (bufM s).view.ref.ty.Contents (Elt F), ((bufM s).view.loc (c : Thread nD τ)) ↦{fullShare} f))
    ∗ w8I m ρ c false ∗ outI m ρ c (fun _ => false)
    ∗ (((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} sxstg m ρ c) ∗ (((c : Thread nD τ).loc cc0_stg3_0) ↦{fullShare} swstg m ρ c))

/-- One of the barrier's signals: the neighbour across `nb e` gets the slots it fills. -/
theorem signal_rule {α : Type} {Q : α → sProp 𝕄} (e : Fin 3) (d : Dev nD) (hd : d = xr c (nb e)) (O : CellTallies nD τ sig Unit) (W : Waits sig Unit)
    (n : ℤ) (hn : n = ((1 : ℕ) : ℤ)) {k : PUnit → Prog (TpuEff nD τ sig (Elt F) Λ₀ .tc) α} :
    iprop(records m ρ K ∗ owes (c : Thread nD τ) (O + tallyAt (barCell (xr c (nb e))) () 1) W ∗ dutyTok ER (barCell (xr c (nb e))) 0 e ∗ barPay (xr c (nb e)) e)
      ⊢ iprop((owes (c : Thread nD τ) O W -∗ WP c (k ⟨⟩) Q) -∗ WP c (.op (.semSignal (d : Thread nD τ) barS n) k) Q) := by
  subst hd hn
  iintro ⟨#HR, HO, Ht, Hp⟩
  ihave #HI := (records_at m ρ K (xr c (nb e), none)) $$ HR
  icases HI with ⟨HI, Hr⟩
  iapply (Rounds.wp_signal 𝒱₀ ER (Rd m ρ) (c : Thread nD τ) none (dst := (xr c (nb e) : Thread nD τ)) (sem := barS) (κ := K (xr c (nb e), none)) (d := e)
      (by rw [duties_bar]; exact Finset.mem_univ _) (amount_bar m ρ (xr c (nb e)) e) () O rfl (hr := Topo.routes_tc c (xr c (nb e))))
  isplitr; · iexact HI
  isplitl [HO]; · iexact HO
  isplitl [Ht]; · iexact Ht
  isplitl [Hp]; · rw [payload_bar]; iexact Hp
  iexact Hr

end Cert.KernelIdealProof

end
-- ==== Proof.KernelIdealPartsA.lean ====
/-
The kernel from its first transfers to the end of its third block of products: each part takes the state before it to the state after it.
-/
module

public import proofs.«01_k».proof.Proof.KernelIdealRun

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)
variable (h0 : xM.IsWhole) (h1 : wM.IsWhole) (h2 : sxM.IsWhole) (h3 : swM.IsWhole) (h4 : outM.IsWhole) (h5 : aM.IsWhole) (h6 : bM.IsWhole) (h7 : cM.IsWhole)
  (h8 : w8M.IsWhole)

theorem part2 {Q : _ → sProp 𝕄} (v2 v25 c0_i32_20 : BitVec 32) (hk : ∀ w0, St m ρ K c (sg 4) ⊢ Q ⟨w0, (k0_pay5 (xM.view.readAt (Elt F) (Rect.unit (s := S512x4096) ![352, 0] S160x4096.size inb_S512x4096_S160x4096_352_0).toLoadRect (xstg m ρ c)))⟩) :
    St m ρ K c (sg 1) ⊢ WP c (k0_part2 xM h0 wM h1 sxM h2 swM h3 outM h4 aM h5 bM h6 cM h7 w8M h8 cc0_scratch4 cc0_scratch5 cc0_scratch6 cc0_scratch7 cc0_scratch8 cc0_scratch9 c v2 v25 c0_i32_20) Q := by
  rw [k0_part2_eq_skeleton]
  unfold k0_part2_skel
  simp only [Prog.lift, Prog.bind_op, Prog.bind_ret, Prog.pure_eq_ret]
  refine ev_send m ρ K c 1 (0, 0) rfl (dev4 c) (slot_eq 0 (off2 c 0)) rfl rfl ?_
  refine step_x m ρ K c _ ?_
  refine ev_dead m ρ K c 2 1 rfl (off1 c) fun _ => ?_
  refine ev_own m ρ K c 2 1 rfl (off1 c) rfl ?_
  refine ev_send m ρ K c 3 (1, 0) rfl (dev5 c) (slot_eq 1 (off2 c 0)) rfl rfl ?_
  refine step_x m ρ K c _ ?_
  refine ev_dead m ρ K c 4 2 rfl (off3 c) fun _ => ?_
  exact ret_step c (hk _)

theorem part3 {Q : _ → sProp 𝕄} (v2 : BitVec 32) (hk : ∀ w0 w1 w2 w3 w4 w5, St m ρ K c (sg 7) ⊢ Q ⟨w0, w1, w2, w3, w4, w5⟩) :
    St m ρ K c (sg 4) ⊢ WP c (k0_part3 xM h0 wM h1 sxM h2 swM h3 outM h4 aM h5 bM h6 cM h7 w8M h8 cc0_scratch4 cc0_scratch5 cc0_scratch6 cc0_scratch7 cc0_scratch8 cc0_scratch9 c v2 (k0_pay5 (xM.view.readAt (Elt F) (Rect.unit (s := S512x4096) ![352, 0] S160x4096.size inb_S512x4096_S160x4096_352_0).toLoadRect (xstg m ρ c)))) Q := by
  rw [k0_part3_eq_skeleton]
  unfold k0_part3_skel
  simp only [Prog.lift, Prog.bind_op, Prog.bind_ret, Prog.pure_eq_ret]
  refine ev_own m ρ K c 4 2 rfl (off3 c) rfl ?_
  refine ev_send m ρ K c 5 (2, 0) rfl (dev6 c) (slot_eq 2 (off4 c 0)) rfl rfl ?_
  refine ev_send m ρ K c 6 (0, 1) rfl (dev7 c) (slot_eq 0 (off2 c 0)) rfl rfl ?_
  exact ret_step c (hk _ _ _ _ _ _)

theorem part4 {Q : _ → sProp 𝕄} (v2 v78 v89 c0_i32_68 : BitVec 32) (hk : ∀ w1 w2, St m ρ K c (sg 10) ⊢ Q ⟨(k0_pay7 (scl m ρ c) (blk m ρ 0 (xr c 0)) (w8v m ρ c)), w1, w2⟩) :
    St m ρ K c (sg 7) ⊢ WP c (k0_part4 xM h0 wM h1 sxM h2 swM h3 outM h4 aM h5 bM h6 cM h7 w8M h8 cc0_scratch4 cc0_scratch5 cc0_scratch6 cc0_scratch7 cc0_scratch8 cc0_scratch9 c v2 (scl m ρ c) v78 v89 c0_i32_68) Q := by
  rw [k0_part4_eq_skeleton]
  unfold k0_part4_skel
  simp only [Prog.lift, Prog.bind_op, Prog.bind_ret, Prog.pure_eq_ret]
  refine ev_send m ρ K c 7 (1, 1) rfl (dev8 c) (slot_eq 1 (off2 c 0)) rfl rfl ?_
  refine ev_send m ρ K c 8 (2, 1) rfl (dev9 c) (slot_eq 2 (off4 c 0)) rfl rfl ?_
  refine step_w m ρ K c _ ?_
  refine ev_w8_dead m ρ K c 9 rfl fun _ => ?_
  refine ev_cp m ρ K c 9 rfl rfl ?_
  refine ev_load m ρ K c 10 0 0 (by decide +kernel) (off1 c) ?_
  refine ev_w8 m ρ K c 10 (by decide) ?_
  exact ret_step c (hk _ _)

theorem part5 {Q : _ → sProp 𝕄} (v2 v123 c0_i32_89 : BitVec 32) (hk : St m ρ K c (sg 13) ⊢ Q ⟨⟩) :
    St m ρ K c (sg 10) ⊢ WP c (k0_part5 xM h0 wM h1 sxM h2 swM h3 outM h4 aM h5 bM h6 cM h7 w8M h8 cc0_scratch4 cc0_scratch5 cc0_scratch6 cc0_scratch7 cc0_scratch8 cc0_scratch9 c v2 (scl m ρ c) (k0_pay7 (scl m ρ c) (blk m ρ 0 (xr c 0)) (w8v m ρ c)) v123 c0_i32_89) Q := by
  rw [k0_part5_eq_skeleton]
  unfold k0_part5_skel
  simp only [Prog.lift, Prog.bind_op, Prog.bind_ret, Prog.pure_eq_ret]
  refine step_out_dead m ρ K c _ fun _ => ?_
  refine ev_out m ρ K c 10 0 0 rfl (off5 c 0) rfl ?_
  refine ev_load m ρ K c 11 1 0 (by decide +kernel) (off1 c) ?_
  refine ev_w8 m ρ K c 11 (by decide) ?_
  refine step_out_dead m ρ K c _ fun _ => ?_
  refine ev_out m ρ K c 11 1 0 rfl (off5 c 1) rfl ?_
  refine ev_load m ρ K c 12 2 0 (by decide +kernel) (off3 c) ?_
  refine ev_w8 m ρ K c 12 (by decide) ?_
  refine step_out_dead m ρ K c _ fun _ => ?_
  refine ev_out m ρ K c 12 2 0 rfl (off6 c) rfl ?_
  exact ret_step c (hk)

theorem part6 {Q : _ → sProp 𝕄} (v2 v24 : BitVec 32) (hk : ∀ w0 w1, St m ρ K c (sg 17) ⊢ Q ⟨w0, w1⟩) :
    St m ρ K c (sg 13) ⊢ WP c (k0_part6 xM h0 wM h1 sxM h2 swM h3 outM h4 aM h5 bM h6 cM h7 w8M h8 cc0_scratch4 cc0_scratch5 cc0_scratch6 cc0_scratch7 cc0_scratch8 cc0_scratch9 c v2 v24) Q := by
  rw [k0_part6_eq_skeleton]
  unfold k0_part6_skel
  simp only [Prog.lift, Prog.bind_op, Prog.bind_ret, Prog.pure_eq_ret]
  refine ev_ws m ρ K c 13 (0, 0) rfl rfl (by rfl) ?_
  refine ev_wr m ρ K c 14 (0, 0) rfl rfl (by rfl) ?_
  refine ev_send m ρ K c 15 (0, 2) rfl (dev10 c) (slot_eq 0 (off2 c 1)) rfl rfl ?_
  refine ev_ws m ρ K c 16 (1, 0) rfl rfl (by rfl) ?_
  exact ret_step c (hk _ _)

theorem part7 {Q : _ → sProp 𝕄} (v2 v43 v62 c1_i32_138 : BitVec 32) (hk : ∀ w, St m ρ K c (sg 20) ⊢ Q w) :
    St m ρ K c (sg 17) ⊢ WP c (k0_part7 xM h0 wM h1 sxM h2 swM h3 outM h4 aM h5 bM h6 cM h7 w8M h8 cc0_scratch4 cc0_scratch5 cc0_scratch6 cc0_scratch7 cc0_scratch8 cc0_scratch9 c v2 v43 v62 c1_i32_138) Q := by
  rw [k0_part7_eq_skeleton]
  unfold k0_part7_skel
  simp only [Prog.lift, Prog.bind_op, Prog.bind_ret, Prog.pure_eq_ret]
  refine ev_wr m ρ K c 17 (1, 0) rfl rfl (by rfl) ?_
  refine ev_send m ρ K c 18 (1, 2) rfl (dev11 c) (slot_eq 1 (off2 c 3)) rfl rfl ?_
  refine ev_ws m ρ K c 19 (2, 0) rfl rfl (by rfl) ?_
  exact ret_step c (hk _)

theorem part8 {Q : _ → sProp 𝕄} (v2 : BitVec 32) (hk : ∀ w0 w1 w2, St m ρ K c (sg 23) ⊢ Q ⟨w0, w1, w2⟩) :
    St m ρ K c (sg 20) ⊢ WP c (k0_part8 xM h0 wM h1 sxM h2 swM h3 outM h4 aM h5 bM h6 cM h7 w8M h8 cc0_scratch4 cc0_scratch5 cc0_scratch6 cc0_scratch7 cc0_scratch8 cc0_scratch9 c v2) Q := by
  rw [k0_part8_eq_skeleton]
  unfold k0_part8_skel
  simp only [Prog.lift, Prog.bind_op, Prog.bind_ret, Prog.pure_eq_ret]
  refine ev_wr m ρ K c 20 (2, 0) rfl rfl (by rfl) ?_
  refine ev_send m ρ K c 21 (2, 2) rfl (dev12 c) (slot_eq 2 (off4 c 4)) rfl rfl ?_
  refine ev_send m ρ K c 22 (0, 3) rfl (dev13 c) (slot_eq 0 (off2 c 0)) rfl rfl ?_
  exact ret_step c (hk _ _ _)

theorem part9 {Q : _ → sProp 𝕄} (v2 v244 : BitVec 32) (hk : ∀ w0 w1, St m ρ K c (sg 25) ⊢ Q ⟨w0, w1⟩) :
    St m ρ K c (sg 23) ⊢ WP c (k0_part9 xM h0 wM h1 sxM h2 swM h3 outM h4 aM h5 bM h6 cM h7 w8M h8 cc0_scratch4 cc0_scratch5 cc0_scratch6 cc0_scratch7 cc0_scratch8 cc0_scratch9 c v2 v244) Q := by
  rw [k0_part9_eq_skeleton]
  unfold k0_part9_skel
  simp only [Prog.lift, Prog.bind_op, Prog.bind_ret, Prog.pure_eq_ret]
  refine ev_send m ρ K c 23 (0, 4) rfl (dev14 c) (slot_eq 0 (off2 c 1)) rfl rfl ?_
  refine ev_send m ρ K c 24 (1, 3) rfl (dev15 c) (slot_eq 1 (off2 c 0)) rfl rfl ?_
  exact ret_step c (hk _ _)

theorem part10 {Q : _ → sProp 𝕄} (v2 : BitVec 32) (hk : ∀ w0 w1 w2, St m ρ K c (sg 28) ⊢ Q ⟨w0, w1, w2, (k0_pay10 (blk m ρ 0 (xr c 1))), (w8v m ρ c), (constant S176x256 .f32 0x00000000#32)⟩) :
    St m ρ K c (sg 25) ⊢ WP c (k0_part10 xM h0 wM h1 sxM h2 swM h3 outM h4 aM h5 bM h6 cM h7 w8M h8 cc0_scratch4 cc0_scratch5 cc0_scratch6 cc0_scratch7 cc0_scratch8 cc0_scratch9 c v2) Q := by
  rw [k0_part10_eq_skeleton]
  unfold k0_part10_skel
  simp only [Prog.lift, Prog.bind_op, Prog.bind_ret, Prog.pure_eq_ret]
  refine ev_send m ρ K c 25 (1, 4) rfl (dev16 c) (slot_eq 1 (off2 c 3)) rfl rfl ?_
  refine ev_send m ρ K c 26 (2, 3) rfl (dev17 c) (slot_eq 2 (off4 c 0)) rfl rfl ?_
  refine ev_send m ρ K c 27 (2, 4) rfl (dev18 c) (slot_eq 2 (off4 c 4)) rfl rfl ?_
  refine ev_load m ρ K c 28 0 1 (by decide +kernel) (off7 c 1) ?_
  refine ev_w8 m ρ K c 28 (by decide) ?_
  exact ret_step c (hk _ _ _)

theorem part11 {Q : _ → sProp 𝕄} (v2 v303 : BitVec 32) (hk : St m ρ K c (sg 30) ⊢ Q (k0_pay9 (scl m ρ c) (blk m ρ 2 (xr c 4)) (w8v m ρ c))) :
    St m ρ K c (sg 28) ⊢ WP c (k0_part11 xM h0 wM h1 sxM h2 swM h3 outM h4 aM h5 bM h6 cM h7 w8M h8 cc0_scratch4 cc0_scratch5 cc0_scratch6 cc0_scratch7 cc0_scratch8 cc0_scratch9 c v2 (scl m ρ c) v303 (k0_pay10 (blk m ρ 0 (xr c 1))) (w8v m ρ c) (constant S176x256 .f32 0x00000000#32)) Q := by
  rw [k0_part11_eq_skeleton]
  unfold k0_part11_skel
  simp only [Prog.lift, Prog.bind_op, Prog.bind_ret, Prog.pure_eq_ret]
  refine step_out_dead m ρ K c _ fun _ => ?_
  refine ev_out m ρ K c 28 0 1 rfl (off8 c 1 0) rfl ?_
  refine ev_load m ρ K c 29 1 3 (by decide +kernel) (off7 c 3) ?_
  refine ev_w8 m ρ K c 29 (by decide) ?_
  refine step_out_dead m ρ K c _ fun _ => ?_
  refine ev_out m ρ K c 29 1 3 rfl (off8 c 3 1) rfl ?_
  refine ev_load m ρ K c 30 2 4 (by decide +kernel) (off9 c) ?_
  refine ev_w8 m ρ K c 30 (by decide) ?_
  refine step_out_dead m ρ K c _ fun _ => ?_
  exact ret_step c (hk)

theorem part12 {Q : _ → sProp 𝕄} (v74 v168 : BitVec 32) (hk : St m ρ K c (sg 34) ⊢ Q ⟨⟩) :
    St m ρ K c (sg 30) ⊢ WP c (k0_part12 xM h0 wM h1 sxM h2 swM h3 outM h4 aM h5 bM h6 cM h7 w8M h8 cc0_scratch4 cc0_scratch5 cc0_scratch6 cc0_scratch7 cc0_scratch8 cc0_scratch9 c v74 v168 (k0_pay9 (scl m ρ c) (blk m ρ 2 (xr c 4)) (w8v m ρ c))) Q := by
  rw [k0_part12_eq_skeleton]
  unfold k0_part12_skel
  simp only [Prog.lift, Prog.bind_op, Prog.bind_ret, Prog.pure_eq_ret]
  refine ev_out m ρ K c 30 2 4 rfl (off10 c) rfl ?_
  refine ev_ws m ρ K c 31 (0, 1) rfl rfl (by rfl) ?_
  refine ev_wr m ρ K c 32 (0, 1) rfl rfl (by rfl) ?_
  refine ev_ws m ρ K c 33 (0, 2) rfl rfl (by rfl) ?_
  exact ret_step c (hk)

end Cert.KernelIdealProof

end
-- ==== Proof.KernelIdealPartsB.lean ====
/-
The second and third exchange and the products between them, part by part.
-/
module

public import proofs.«01_k».proof.Proof.KernelIdealRun

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)
variable (h0 : xM.IsWhole) (h1 : wM.IsWhole) (h2 : sxM.IsWhole) (h3 : swM.IsWhole) (h4 : outM.IsWhole) (h5 : aM.IsWhole) (h6 : bM.IsWhole) (h7 : cM.IsWhole)
  (h8 : w8M.IsWhole)

theorem part13 {Q : _ → sProp 𝕄} (v2 : BitVec 32) (hk : ∀ w0 w1, St m ρ K c (sg 37) ⊢ Q ⟨w0, w1⟩) :
    St m ρ K c (sg 34) ⊢ WP c (k0_part13 xM h0 wM h1 sxM h2 swM h3 outM h4 aM h5 bM h6 cM h7 w8M h8 cc0_scratch4 cc0_scratch5 cc0_scratch6 cc0_scratch7 cc0_scratch8 cc0_scratch9 c v2) Q := by
  rw [k0_part13_eq_skeleton]
  unfold k0_part13_skel
  simp only [Prog.lift, Prog.bind_op, Prog.bind_ret, Prog.pure_eq_ret]
  refine ev_wr m ρ K c 34 (0, 2) rfl rfl (by rfl) ?_
  refine ev_send m ρ K c 35 (0, 5) rfl (dev19 c) (slot_eq 0 (off2 c 2)) rfl rfl ?_
  refine ev_send m ρ K c 36 (0, 6) rfl (dev20 c) (slot_eq 0 (off2 c 3)) rfl rfl ?_
  exact ret_step c (hk _ _)

theorem part14 {Q : _ → sProp 𝕄} (v2 v76 v194 : BitVec 32) (hk : ∀ w0 w1 w2, St m ρ K c (sg 41) ⊢ Q ⟨w0, w1, w2⟩) :
    St m ρ K c (sg 37) ⊢ WP c (k0_part14 xM h0 wM h1 sxM h2 swM h3 outM h4 aM h5 bM h6 cM h7 w8M h8 cc0_scratch4 cc0_scratch5 cc0_scratch6 cc0_scratch7 cc0_scratch8 cc0_scratch9 c v2 v76 v194) Q := by
  rw [k0_part14_eq_skeleton]
  unfold k0_part14_skel
  simp only [Prog.lift, Prog.bind_op, Prog.bind_ret, Prog.pure_eq_ret]
  refine ev_ws m ρ K c 37 (1, 1) rfl rfl (by rfl) ?_
  refine ev_wr m ρ K c 38 (1, 1) rfl rfl (by rfl) ?_
  refine ev_ws m ρ K c 39 (1, 2) rfl rfl (by rfl) ?_
  refine ev_wr m ρ K c 40 (1, 2) rfl rfl (by rfl) ?_
  exact ret_step c (hk _ _ _)

theorem part15 {Q : _ → sProp 𝕄} (v2 v78 v427 c0_i32_349 : BitVec 32) (hk : ∀ w, St m ρ K c (sg 44) ⊢ Q w) :
    St m ρ K c (sg 41) ⊢ WP c (k0_part15 xM h0 wM h1 sxM h2 swM h3 outM h4 aM h5 bM h6 cM h7 w8M h8 cc0_scratch4 cc0_scratch5 cc0_scratch6 cc0_scratch7 cc0_scratch8 cc0_scratch9 c v2 v78 v427 c0_i32_349) Q := by
  rw [k0_part15_eq_skeleton]
  unfold k0_part15_skel
  simp only [Prog.lift, Prog.bind_op, Prog.bind_ret, Prog.pure_eq_ret]
  refine ev_send m ρ K c 41 (1, 5) rfl (dev21 c) (slot_eq 1 (off2 c 4)) rfl rfl ?_
  refine ev_send m ρ K c 42 (1, 6) rfl (dev22 c) (slot_eq 1 (off2 c 7)) rfl rfl ?_
  refine ev_ws m ρ K c 43 (2, 1) rfl rfl (by rfl) ?_
  exact ret_step c (hk _)

theorem part16 {Q : _ → sProp 𝕄} (v2 v220 : BitVec 32) (hk : ∀ w, St m ρ K c (sg 47) ⊢ Q w) :
    St m ρ K c (sg 44) ⊢ WP c (k0_part16 xM h0 wM h1 sxM h2 swM h3 outM h4 aM h5 bM h6 cM h7 w8M h8 cc0_scratch4 cc0_scratch5 cc0_scratch6 cc0_scratch7 cc0_scratch8 cc0_scratch9 c v2 v220) Q := by
  rw [k0_part16_eq_skeleton]
  unfold k0_part16_skel
  simp only [Prog.lift, Prog.bind_op, Prog.bind_ret, Prog.pure_eq_ret]
  refine ev_wr m ρ K c 44 (2, 1) rfl rfl (by rfl) ?_
  refine ev_ws m ρ K c 45 (2, 2) rfl rfl (by rfl) ?_
  refine ev_wr m ρ K c 46 (2, 2) rfl rfl (by rfl) ?_
  exact ret_step c (hk _)

theorem part17 {Q : _ → sProp 𝕄} (v2 : BitVec 32) (hk : ∀ w0 w1, St m ρ K c (sg 50) ⊢ Q ⟨w0, w1, (k0_pay10 (blk m ρ 0 (xr c (xr 3 1))))⟩) :
    St m ρ K c (sg 47) ⊢ WP c (k0_part17 xM h0 wM h1 sxM h2 swM h3 outM h4 aM h5 bM h6 cM h7 w8M h8 cc0_scratch4 cc0_scratch5 cc0_scratch6 cc0_scratch7 cc0_scratch8 cc0_scratch9 c v2 (scl m ρ c)) Q := by
  rw [k0_part17_eq_skeleton]
  unfold k0_part17_skel
  simp only [Prog.lift, Prog.bind_op, Prog.bind_ret, Prog.pure_eq_ret]
  refine ev_send m ρ K c 47 (2, 5) rfl (dev23 c) (slot_eq 2 (off4 c 1)) rfl rfl ?_
  refine ev_send m ρ K c 48 (2, 6) rfl (dev24 c) (slot_eq 2 (off4 c 5)) rfl rfl ?_
  refine ev_load m ρ K c 49 0 3 (by decide +kernel) (off11 c 3 0) ?_
  refine ev_w8 m ρ K c 49 (by decide) ?_
  refine step_out_dead m ρ K c _ fun _ => ?_
  refine ev_out m ρ K c 49 0 3 rfl (off12 c 3 0 0) rfl ?_
  refine ev_load m ρ K c 50 0 2 (by decide +kernel) (off11 c 3 1) ?_
  exact ret_step c (hk _ _)

theorem part18 {Q : _ → sProp 𝕄} (v2 v517 : BitVec 32) (hk : ∀ w0, St m ρ K c (sg 52) ⊢ Q ⟨w0, (k0_pay18 (scl m ρ c) (blk m ρ 1 (xr c (xr 4 3))) (w8v m ρ c)), (k0_pay19 (scl m ρ c) (blk m ρ 1 (xr c (xr 4 3))) (w8v m ρ c))⟩) :
    St m ρ K c (sg 50) ⊢ WP c (k0_part18 xM h0 wM h1 sxM h2 swM h3 outM h4 aM h5 bM h6 cM h7 w8M h8 cc0_scratch4 cc0_scratch5 cc0_scratch6 cc0_scratch7 cc0_scratch8 cc0_scratch9 c v2 (scl m ρ c) v517 (k0_pay10 (blk m ρ 0 (xr c (xr 3 1))))) Q := by
  rw [k0_part18_eq_skeleton]
  unfold k0_part18_skel
  simp only [Prog.lift, Prog.bind_op, Prog.bind_ret, Prog.pure_eq_ret]
  refine ev_w8 m ρ K c 50 (by decide) ?_
  refine step_out_dead m ρ K c _ fun _ => ?_
  refine ev_out m ρ K c 50 0 2 rfl (off12 c 3 1 0) rfl ?_
  refine ev_load m ρ K c 51 1 4 (by decide +kernel) (off11 c 4 0) ?_
  refine ev_w8 m ρ K c 51 (by decide) ?_
  refine step_out_dead m ρ K c _ fun _ => ?_
  refine ev_out m ρ K c 51 1 4 rfl (off12 c 4 0 1) rfl ?_
  refine ev_load m ρ K c 52 1 7 (by decide +kernel) (off11 c 4 3) ?_
  refine ev_w8 m ρ K c 52 (by decide) ?_
  exact ret_step c (hk _)

theorem part19 {Q : _ → sProp 𝕄} (v2 v547 : BitVec 32) (hk : St m ρ K c (sg 54) ⊢ Q (k0_pay9 (scl m ρ c) (blk m ρ 2 (xr c (xr 1 4))) (w8v m ρ c))) :
    St m ρ K c (sg 52) ⊢ WP c (k0_part19 xM h0 wM h1 sxM h2 swM h3 outM h4 aM h5 bM h6 cM h7 w8M h8 cc0_scratch4 cc0_scratch5 cc0_scratch6 cc0_scratch7 cc0_scratch8 cc0_scratch9 c v2 (scl m ρ c) v547 (k0_pay18 (scl m ρ c) (blk m ρ 1 (xr c (xr 4 3))) (w8v m ρ c)) (k0_pay19 (scl m ρ c) (blk m ρ 1 (xr c (xr 4 3))) (w8v m ρ c))) Q := by
  rw [k0_part19_eq_skeleton]
  unfold k0_part19_skel
  simp only [Prog.lift, Prog.bind_op, Prog.bind_ret, Prog.pure_eq_ret]
  refine step_out_dead m ρ K c _ fun _ => ?_
  refine ev_out m ρ K c 52 1 7 rfl (off12 c 4 3 1) rfl ?_
  refine ev_load m ρ K c 53 2 1 (by decide +kernel) (off13 c 1 0) ?_
  refine ev_w8 m ρ K c 53 (by decide) ?_
  refine step_out_dead m ρ K c _ fun _ => ?_
  refine ev_out m ρ K c 53 2 1 rfl (off14 c 1 0) rfl ?_
  refine ev_load m ρ K c 54 2 5 (by decide +kernel) (off13 c 1 4) ?_
  refine ev_w8 m ρ K c 54 (by decide) ?_
  refine step_out_dead m ρ K c _ fun _ => ?_
  exact ret_step c (hk)

end Cert.KernelIdealProof

end
-- ==== Proof.KernelIdealPartsC.lean ====
/-
The last exchange: each slot waited for and multiplied, part by part.
-/
module

public import proofs.«01_k».proof.Proof.KernelIdealRun

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)
variable (h0 : xM.IsWhole) (h1 : wM.IsWhole) (h2 : sxM.IsWhole) (h3 : swM.IsWhole) (h4 : outM.IsWhole) (h5 : aM.IsWhole) (h6 : bM.IsWhole) (h7 : cM.IsWhole)
  (h8 : w8M.IsWhole)

theorem part20 {Q : _ → sProp 𝕄} (v2 v280 : BitVec 32) (hk : St m ρ K c (sg 58) ⊢ Q ⟨⟩) :
    St m ρ K c (sg 54) ⊢ WP c (k0_part20 xM h0 wM h1 sxM h2 swM h3 outM h4 aM h5 bM h6 cM h7 w8M h8 cc0_scratch4 cc0_scratch5 cc0_scratch6 cc0_scratch7 cc0_scratch8 cc0_scratch9 c v2 (scl m ρ c) v280 (k0_pay9 (scl m ρ c) (blk m ρ 2 (xr c (xr 1 4))) (w8v m ρ c))) Q := by
  rw [k0_part20_eq_skeleton]
  unfold k0_part20_skel
  simp only [Prog.lift, Prog.bind_op, Prog.bind_ret, Prog.pure_eq_ret]
  refine ev_out m ρ K c 54 2 5 rfl (off14 c 1 4) rfl ?_
  refine ev_ws m ρ K c 55 (2, 3) rfl rfl (by rfl) ?_
  refine ev_wr m ρ K c 56 (2, 3) rfl rfl (by rfl) ?_
  refine ev_load m ρ K c 57 2 3 (by decide +kernel) (off13 c 3 0) ?_
  refine ev_w8 m ρ K c 57 (by decide) ?_
  refine step_out_dead m ρ K c _ fun _ => ?_
  refine ev_out m ρ K c 57 2 3 rfl (off14 c 3 0) rfl ?_
  exact ret_step c (hk)

theorem part21 {Q : _ → sProp 𝕄} (v2 v256 : BitVec 32) (hk : St m ρ K c (sg 61) ⊢ Q ⟨⟩) :
    St m ρ K c (sg 58) ⊢ WP c (k0_part21 xM h0 wM h1 sxM h2 swM h3 outM h4 aM h5 bM h6 cM h7 w8M h8 cc0_scratch4 cc0_scratch5 cc0_scratch6 cc0_scratch7 cc0_scratch8 cc0_scratch9 c v2 (scl m ρ c) v256) Q := by
  rw [k0_part21_eq_skeleton]
  unfold k0_part21_skel
  simp only [Prog.lift, Prog.bind_op, Prog.bind_ret, Prog.pure_eq_ret]
  refine ev_ws m ρ K c 58 (1, 3) rfl rfl (by rfl) ?_
  refine ev_wr m ρ K c 59 (1, 3) rfl rfl (by rfl) ?_
  refine ev_load m ρ K c 60 1 1 (by decide +kernel) (off11 c 1 0) ?_
  refine ev_w8 m ρ K c 60 (by decide) ?_
  refine step_out_dead m ρ K c _ fun _ => ?_
  refine ev_out m ρ K c 60 1 1 rfl (off12 c 1 0 1) rfl ?_
  exact ret_step c (hk)

theorem part22 {Q : _ → sProp 𝕄} (v2 v232 : BitVec 32) (hk : St m ρ K c (sg 64) ⊢ Q ⟨⟩) :
    St m ρ K c (sg 61) ⊢ WP c (k0_part22 xM h0 wM h1 sxM h2 swM h3 outM h4 aM h5 bM h6 cM h7 w8M h8 cc0_scratch4 cc0_scratch5 cc0_scratch6 cc0_scratch7 cc0_scratch8 cc0_scratch9 c v2 (scl m ρ c) v232) Q := by
  rw [k0_part22_eq_skeleton]
  unfold k0_part22_skel
  simp only [Prog.lift, Prog.bind_op, Prog.bind_ret, Prog.pure_eq_ret]
  refine ev_ws m ρ K c 61 (0, 3) rfl rfl (by rfl) ?_
  refine ev_wr m ρ K c 62 (0, 3) rfl rfl (by rfl) ?_
  refine ev_load m ρ K c 63 0 4 (by decide +kernel) (off11 c 4 0) ?_
  refine ev_w8 m ρ K c 63 (by decide) ?_
  refine step_out_dead m ρ K c _ fun _ => ?_
  refine ev_out m ρ K c 63 0 4 rfl (off12 c 4 0 0) rfl ?_
  exact ret_step c (hk)

theorem part23 {Q : _ → sProp 𝕄} (v2 v292 : BitVec 32) (hk : St m ρ K c (sg 67) ⊢ Q ⟨⟩) :
    St m ρ K c (sg 64) ⊢ WP c (k0_part23 xM h0 wM h1 sxM h2 swM h3 outM h4 aM h5 bM h6 cM h7 w8M h8 cc0_scratch4 cc0_scratch5 cc0_scratch6 cc0_scratch7 cc0_scratch8 cc0_scratch9 c v2 (scl m ρ c) v292) Q := by
  rw [k0_part23_eq_skeleton]
  unfold k0_part23_skel
  simp only [Prog.lift, Prog.bind_op, Prog.bind_ret, Prog.pure_eq_ret]
  refine ev_ws m ρ K c 64 (2, 4) rfl rfl (by rfl) ?_
  refine ev_wr m ρ K c 65 (2, 4) rfl rfl (by rfl) ?_
  refine ev_load m ρ K c 66 2 7 (by decide +kernel) (off13 c 3 4) ?_
  refine ev_w8 m ρ K c 66 (by decide) ?_
  refine step_out_dead m ρ K c _ fun _ => ?_
  refine ev_out m ρ K c 66 2 7 rfl (off14 c 3 4) rfl ?_
  exact ret_step c (hk)

theorem part24 {Q : _ → sProp 𝕄} (v2 v268 : BitVec 32) (hk : St m ρ K c (sg 71) ⊢ Q ⟨⟩) :
    St m ρ K c (sg 67) ⊢ WP c (k0_part24 xM h0 wM h1 sxM h2 swM h3 outM h4 aM h5 bM h6 cM h7 w8M h8 cc0_scratch4 cc0_scratch5 cc0_scratch6 cc0_scratch7 cc0_scratch8 cc0_scratch9 c v2 (scl m ρ c) v268) Q := by
  rw [k0_part24_eq_skeleton]
  unfold k0_part24_skel
  simp only [Prog.lift, Prog.bind_op, Prog.bind_ret, Prog.pure_eq_ret]
  refine ev_ws m ρ K c 67 (1, 4) rfl rfl (by rfl) ?_
  refine ev_wr m ρ K c 68 (1, 4) rfl rfl (by rfl) ?_
  refine ev_load m ρ K c 69 1 2 (by decide +kernel) (off11 c 1 3) ?_
  refine ev_w8 m ρ K c 69 (by decide) ?_
  refine step_out_dead m ρ K c _ fun _ => ?_
  refine ev_out m ρ K c 69 1 2 rfl (off12 c 1 3 1) rfl ?_
  refine ev_ws m ρ K c 70 (0, 4) rfl rfl (by rfl) ?_
  exact ret_step c (hk)

theorem part25 {Q : _ → sProp 𝕄} (v2 v244 : BitVec 32) (hk : ∀ w, St m ρ K c (sg 74) ⊢ Q w) :
    St m ρ K c (sg 71) ⊢ WP c (k0_part25 xM h0 wM h1 sxM h2 swM h3 outM h4 aM h5 bM h6 cM h7 w8M h8 cc0_scratch4 cc0_scratch5 cc0_scratch6 cc0_scratch7 cc0_scratch8 cc0_scratch9 c v2 (scl m ρ c) v244) Q := by
  rw [k0_part25_eq_skeleton]
  unfold k0_part25_skel
  simp only [Prog.lift, Prog.bind_op, Prog.bind_ret, Prog.pure_eq_ret]
  refine ev_wr m ρ K c 71 (0, 4) rfl rfl (by rfl) ?_
  refine ev_load m ρ K c 72 0 5 (by decide +kernel) (off11 c 4 1) ?_
  refine ev_w8 m ρ K c 72 (by decide) ?_
  refine step_out_dead m ρ K c _ fun _ => ?_
  refine ev_out m ρ K c 72 0 5 rfl (off12 c 4 1 0) rfl ?_
  refine ev_ws m ρ K c 73 (2, 5) rfl rfl (by rfl) ?_
  exact ret_step c (hk _)

theorem part26 {Q : _ → sProp 𝕄} (v2 v426 v478 c1_i32_632 : BitVec 32) (hk : St m ρ K c (sg 77) ⊢ Q ⟨⟩) :
    St m ρ K c (sg 74) ⊢ WP c (k0_part26 xM h0 wM h1 sxM h2 swM h3 outM h4 aM h5 bM h6 cM h7 w8M h8 cc0_scratch4 cc0_scratch5 cc0_scratch6 cc0_scratch7 cc0_scratch8 cc0_scratch9 c v2 (scl m ρ c) v426 v478 c1_i32_632) Q := by
  rw [k0_part26_eq_skeleton]
  unfold k0_part26_skel
  simp only [Prog.lift, Prog.bind_op, Prog.bind_ret, Prog.pure_eq_ret]
  refine ev_wr m ρ K c 74 (2, 5) rfl rfl (by rfl) ?_
  refine ev_load m ρ K c 75 2 2 (by decide +kernel) (off13 c 3 1) ?_
  refine ev_w8 m ρ K c 75 (by decide) ?_
  refine step_out_dead m ρ K c _ fun _ => ?_
  refine ev_out m ρ K c 75 2 2 rfl (off14 c 3 1) rfl ?_
  refine ev_ws m ρ K c 76 (1, 5) rfl rfl (by rfl) ?_
  exact ret_step c (hk)

theorem part27 {Q : _ → sProp 𝕄} (v2 v374 : BitVec 32) (hk : St m ρ K c (sg 80) ⊢ Q ⟨⟩) :
    St m ρ K c (sg 77) ⊢ WP c (k0_part27 xM h0 wM h1 sxM h2 swM h3 outM h4 aM h5 bM h6 cM h7 w8M h8 cc0_scratch4 cc0_scratch5 cc0_scratch6 cc0_scratch7 cc0_scratch8 cc0_scratch9 c v2 (scl m ρ c) v374) Q := by
  rw [k0_part27_eq_skeleton]
  unfold k0_part27_skel
  simp only [Prog.lift, Prog.bind_op, Prog.bind_ret, Prog.pure_eq_ret]
  refine ev_wr m ρ K c 77 (1, 5) rfl rfl (by rfl) ?_
  refine ev_load m ρ K c 78 1 5 (by decide +kernel) (off11 c 1 4) ?_
  refine ev_w8 m ρ K c 78 (by decide) ?_
  refine step_out_dead m ρ K c _ fun _ => ?_
  refine ev_out m ρ K c 78 1 5 rfl (off12 c 1 4 1) rfl ?_
  refine ev_ws m ρ K c 79 (0, 5) rfl rfl (by rfl) ?_
  exact ret_step c (hk)

theorem part28 {Q : _ → sProp 𝕄} (v2 v490 : BitVec 32) (hk : St m ρ K c (sg 83) ⊢ Q ⟨⟩) :
    St m ρ K c (sg 80) ⊢ WP c (k0_part28 xM h0 wM h1 sxM h2 swM h3 outM h4 aM h5 bM h6 cM h7 w8M h8 cc0_scratch4 cc0_scratch5 cc0_scratch6 cc0_scratch7 cc0_scratch8 cc0_scratch9 c v2 (scl m ρ c) v490) Q := by
  rw [k0_part28_eq_skeleton]
  unfold k0_part28_skel
  simp only [Prog.lift, Prog.bind_op, Prog.bind_ret, Prog.pure_eq_ret]
  refine ev_wr m ρ K c 80 (0, 5) rfl rfl (by rfl) ?_
  refine ev_load m ρ K c 81 0 6 (by decide +kernel) (off11 c 4 2) ?_
  refine ev_w8 m ρ K c 81 (by decide) ?_
  refine step_out_dead m ρ K c _ fun _ => ?_
  refine ev_out m ρ K c 81 0 6 rfl (off12 c 4 2 0) rfl ?_
  refine ev_ws m ρ K c 82 (2, 6) rfl rfl (by rfl) ?_
  exact ret_step c (hk)

theorem part29 {Q : _ → sProp 𝕄} (v2 v438 : BitVec 32) (hk : St m ρ K c (sg 86) ⊢ Q ⟨⟩) :
    St m ρ K c (sg 83) ⊢ WP c (k0_part29 xM h0 wM h1 sxM h2 swM h3 outM h4 aM h5 bM h6 cM h7 w8M h8 cc0_scratch4 cc0_scratch5 cc0_scratch6 cc0_scratch7 cc0_scratch8 cc0_scratch9 c v2 (scl m ρ c) v438) Q := by
  rw [k0_part29_eq_skeleton]
  unfold k0_part29_skel
  simp only [Prog.lift, Prog.bind_op, Prog.bind_ret, Prog.pure_eq_ret]
  refine ev_wr m ρ K c 83 (2, 6) rfl rfl (by rfl) ?_
  refine ev_load m ρ K c 84 2 6 (by decide +kernel) (off13 c 3 5) ?_
  refine ev_w8 m ρ K c 84 (by decide) ?_
  refine step_out_dead m ρ K c _ fun _ => ?_
  refine ev_out m ρ K c 84 2 6 rfl (off14 c 3 5) rfl ?_
  refine ev_ws m ρ K c 85 (1, 6) rfl rfl (by rfl) ?_
  exact ret_step c (hk)

theorem part30 {Q : _ → sProp 𝕄} (v2 v386 : BitVec 32) (hk : ∀ w, St m ρ K c (sg 90) ⊢ Q w) :
    St m ρ K c (sg 86) ⊢ WP c (k0_part30 xM h0 wM h1 sxM h2 swM h3 outM h4 aM h5 bM h6 cM h7 w8M h8 cc0_scratch4 cc0_scratch5 cc0_scratch6 cc0_scratch7 cc0_scratch8 cc0_scratch9 c v2 (scl m ρ c) v386) Q := by
  rw [k0_part30_eq_skeleton]
  unfold k0_part30_skel
  simp only [Prog.lift, Prog.bind_op, Prog.bind_ret, Prog.pure_eq_ret]
  refine ev_wr m ρ K c 86 (1, 6) rfl rfl (by rfl) ?_
  refine ev_load m ρ K c 87 1 6 (by decide +kernel) (off11 c 1 7) ?_
  refine ev_w8 m ρ K c 87 (by decide) ?_
  refine step_out_dead m ρ K c _ fun _ => ?_
  refine ev_out m ρ K c 87 1 6 rfl (off12 c 1 7 1) rfl ?_
  refine ev_ws m ρ K c 88 (0, 6) rfl rfl (by rfl) ?_
  refine ev_wr m ρ K c 89 (0, 6) rfl rfl (by rfl) ?_
  exact ret_step c (hk _)

end Cert.KernelIdealProof

end
-- ==== Proof.KernelIdealBody.lean ====
/-
The kernel on one device from entry to exit: the barrier, then the parts in order.
-/
module

public import proofs.«01_k».proof.Proof.KernelIdealStart
public import proofs.«01_k».proof.Proof.KernelIdealPartsA
public import proofs.«01_k».proof.Proof.KernelIdealPartsB
public import proofs.«01_k».proof.Proof.KernelIdealPartsC

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-- A sequence runs its first program, then the rest. -/
theorem bind_step {α β : Type} {Q : β → sProp 𝕄} {P : sProp 𝕄} {p : Prog (TpuEff nD τ sig (Elt F) Λ₀ .tc) α} {k : α → Prog (TpuEff nD τ sig (Elt F) Λ₀ .tc) β}
    (h : P ⊢ WP c p fun a => WP c (k a) Q) : P ⊢ WP c (p >>= k) Q := by
  show P ⊢ wp frame (wpE (defs₀ (F := F)) 𝒱₀ (c : Thread nD τ) none) Set.univ (p >>= k) Q
  rw [wp_bind]
  exact h

theorem assoc4 (A B C D : sProp 𝕄) : iprop(A ∗ B ∗ C ∗ D) = iprop((A ∗ B ∗ C) ∗ D) := by
  have h1 : iprop(A ∗ B ∗ C ∗ D) ⊢ iprop((A ∗ B ∗ C) ∗ D) := by
    iintro ⟨H1, H2, H3, H4⟩
    isplitl [H1 H2 H3]
    · isplitl [H1]; · iexact H1
      isplitl [H2] <;> iassumption
    iexact H4
  have h2 : iprop((A ∗ B ∗ C) ∗ D) ⊢ iprop(A ∗ B ∗ C ∗ D) := by
    iintro ⟨⟨H1, H2, H3⟩, H4⟩
    isplitl [H1]; · iexact H1
    isplitl [H2]; · iexact H2
    isplitl [H3] <;> iassumption
  exact BI.Entails.antisymm h1 h2

/-- The loads of the two scales. -/
theorem load_sx {α : Type} {Q : α → sProp 𝕄} (σ : Sg) {k : Elt F .f32 → Prog (TpuEff nD τ sig (Elt F) Λ₀ .tc) α} {h1 : rS.shape.numel = 1} {hp : EltTy.f32.packing = 1}
    (hk : St m ρ K c σ ⊢ WP c (k ((sxM.access rS).read (Elt F) (sxstg m ρ c) (Shape.Idx.first (h1.symm ▸ Nat.one_pos)))) Q) :
    St m ρ K c σ ⊢ WP c (smemLoad sxM rS h1 hp >>= k) Q :=
  step_sx m ρ K c σ (hw := View.loads_smem_one hp h1) (x := Shape.Idx.first (h1.symm ▸ Nat.one_pos)) (k := k) hk
theorem load_sw {α : Type} {Q : α → sProp 𝕄} (σ : Sg) {k : Elt F .f32 → Prog (TpuEff nD τ sig (Elt F) Λ₀ .tc) α} {h1 : rS.shape.numel = 1} {hp : EltTy.f32.packing = 1}
    (hk : St m ρ K c σ ⊢ WP c (k ((swM.access rS).read (Elt F) (swstg m ρ c) (Shape.Idx.first (h1.symm ▸ Nat.one_pos)))) Q) :
    St m ρ K c σ ⊢ WP c (smemLoad swM rS h1 hp >>= k) Q :=
  step_sw m ρ K c σ (hw := View.loads_smem_one hp h1) (x := Shape.Idx.first (h1.symm ▸ Nat.one_pos)) (k := k) hk

/-- The barrier: the three signals, the wait for three, and the state after it. -/
theorem barrier {α : Type} {Q : α → sProp 𝕄} {k : PUnit → Prog (TpuEff nD τ sig (Elt F) Λ₀ .tc) α}
    {d1 d2 d3 : Dev nD} (h1 : d1 = xr c 1) (h2 : d2 = xr c 3) (h3 : d3 = xr c 4) {n1 n2 n3 n4 : ℤ} (e1 : n1 = ((1 : ℕ) : ℤ)) (e2 : n2 = ((1 : ℕ) : ℤ)) (e3 : n3 = ((1 : ℕ) : ℤ)) (e4 : n4 = ((3 : ℕ) : ℤ))
    (hk : St m ρ K c (sg 0) ⊢ WP c (k ⟨⟩) Q) :
    pre m ρ K c ⊢ WP c (.op (.semSignal (d1 : Thread nD τ) barS n1) fun _ => .op (.semSignal (d2 : Thread nD τ) barS n2) fun _ => .op (.semSignal (d3 : Thread nD τ) barS n3) fun _ => .op (.semWait barS n4) k) Q := by
  subst e4
  have hz : uns (sg 0).ph = fun _ => true := rfl
  have hr : (fun t => rcvI (F := F) c t ((sg 0).rp t)) = fun t => rcvI c t false := rfl
  have h3e : ∀ Φ : Fin 3 → sProp 𝕄, bigSep Finset.univ Φ = iprop(Φ 0 ∗ Φ 1 ∗ Φ 2) := fun Φ => bigSep_univ_eq_bigSepL [(0 : Fin 3), 1, 2] (by decide) (by decide) Φ
  have hs : bigSep Finset.univ (fun t => sndI (F := F) c t ((sg 0).ph t)) = iprop(bigSep Finset.univ (fun t => tokI c t) ∗ bigSep Finset.univ fun t : T => iprop(∃ f, slotPts (xr c (mE t)) t.1 (xr c (mC t)) fullShare f)) := by
    rw [← bigSep_sep']
    refine bigSep_congr fun t _ => ?_
    show iprop(dutyTok ER (sendCell c t) 0 0 ∗ dutyTok ER (recvCell (xr c (mE t)) t) 0 0 ∗ atPos ER (sendCell c t) 0 ∅ 0
      ∗ ∃ f, slotPts (xr c (mE t)) t.1 (xr c (mC t)) fullShare f) = iprop(tokI c t ∗ _)
    unfold tokI
    exact assoc4 _ _ _ _
  unfold pre barI O₀
  iintro ⟨#HR, #HL, ⟨%W, HO⟩, ⟨HcB, HaB, HtB⟩, HT, HV, HB, HW, HU, HG1, HG2, HG3, HG4⟩
  ihave HB := (all_slots m ρ c) $$ HB
  ihave HB := (deal m ρ c) $$ HB
  icases HB with ⟨HH, HP⟩
  ihave HP := (Entails.of_eq (h3e fun e => barPay (xr c (nb e)) e)) $$ HP
  icases HP with ⟨HP0, HP1, HP2⟩
  ihave HtB := (Entails.of_eq (h3e fun e => dutyTok ER (barCell (xr c (nb e))) 0 e)) $$ HtB
  icases HtB with ⟨Ht0, Ht1, Ht2⟩
  iapply (signal_rule m ρ K c 0 d1 h1 (O₁ c) W n1 e1) $$ [HO Ht0 HP0]
  · isplitr; · iexact HR
    isplitl [HO]; · iexact HO
    isplitl [Ht0] <;> iassumption
  iintro HO
  unfold O₁
  iapply (signal_rule m ρ K c 1 d2 h2 (O₂ c) W n2 e2) $$ [HO Ht1 HP1]
  · isplitr; · iexact HR
    isplitl [HO]; · iexact HO
    isplitl [Ht1] <;> iassumption
  iintro HO
  unfold O₂
  iapply (signal_rule m ρ K c 2 d3 h3 (owe c fun _ => true) W n3 e3) $$ [HO Ht2 HP2]
  · isplitr; · iexact HR
    isplitl [HO]; · iexact HO
    isplitl [Ht2] <;> iassumption
  iintro HO
  ihave #HI := (records_at m ρ K (c, none)) $$ HR
  icases HI with ⟨HI, Hr⟩
  iapply (Rounds.wp_wait_rest_token 𝒱₀ ER (Rd m ρ) (c : Thread nD τ) none (κ := K (c, none))
      (wpE_semWait_eq 𝒱₀ (c : Thread nD τ) none Set.univ) (Set.mem_univ _) () (O := owe c fun _ => true) (W := W) (R := 0) (m := 0) (T := ∅)
      (by rw [expect_bar])) $$ [HcB HO HaB]
  · isplitr; · iexact HI
    isplitl [HcB]; · iexact HcB
    isplitl [HO]; · iexact HO
    isplitr
    · iapply (mayWait c (.reg barS) (fun _ => true) 1 (le_of_eq (lv_bar c ())) fun t _ => (by decide : ∀ u : T, 1 < lvT u) t)
      iexact HL
    iexact HaB
  iintro ⟨HO, HaB, -, HP⟩
  ihave HP := (Entails.of_eq ((rest_bar m ρ c).trans (landing c))) $$ HP
  imod (Rounds.cell_close ER (Rd m ρ) (Set.mem_univ (K (c, none))) (fun h => h) (R := 0 + 1) (duties_later m ρ (barCell c))) $$ [HaB] with HzB
  · isplitr; · iexact HI
    iexact HaB
  iapply hk
  unfold St stgI oweI
  isplitr; · iexact HR
  isplitr; · iexact HL
  isplitl [HO]; · iexists _; iexact HO
  isplitl [HT HP]
  · iapply (Entails.of_eq hs.symm)
    isplitl [HT] <;> iassumption
  isplitl [HV]; · iexact HV
  isplitl [HH]; · iexact HH
  isplitl [HW]; · iexact HW
  isplitl [HU]; · iexact HU
  isplitl [HG1]; · iexact HG1
  isplitl [HG2]; · iexact HG2
  isplitl [HG3]; · iexact HG3
  isplitl [HG4]; · iexact HG4
  iexact HzB

variable (h0 : xM.IsWhole) (h1 : wM.IsWhole) (h2 : sxM.IsWhole) (h3 : swM.IsWhole) (h4 : outM.IsWhole) (h5 : aM.IsWhole) (h6 : bM.IsWhole) (h7 : cM.IsWhole)
  (h8 : w8M.IsWhole)

theorem part1 {Q : _ → sProp 𝕄} (hk : ∀ w1 w2 w3 w4, St m ρ K c (sg 1) ⊢ Q ⟨c, w1, scl m ρ c, w2, w3, w4⟩) :
    pre m ρ K c ⊢ WP c (k0_part1 xM h0 wM h1 sxM h2 swM h3 outM h4 aM h5 bM h6 cM h7 w8M h8 cc0_scratch4 cc0_scratch5 cc0_scratch6 cc0_scratch7 cc0_scratch8 cc0_scratch9) Q := by
  rw [k0_part1_eq_skeleton]
  unfold k0_part1_skel
  simp only [semSignalWord, semWaitWord, Prog.lift, Prog.bind_op, Prog.bind_ret, Prog.pure_eq_ret, Prog.bind_assoc, wp_deviceId]
  refine barrier m ρ K c (dev1 c) (dev2 c) (dev3 c) (by decide) (by decide) (by decide) (by decide) ?_
  refine load_sx m ρ K c _ ?_
  refine load_sw m ρ K c _ ?_
  refine step_x m ρ K c _ ?_
  refine ev_dead m ρ K c 0 0 rfl (off1 c) fun _ => ?_
  refine ev_own m ρ K c 0 0 rfl (off1 c) rfl ?_
  exact ret_step c (hk _ _ _ _)

/-- What a device holds when it leaves the kernel. -/
def post : sProp 𝕄 :=
  iprop((∃ W, owes (c : Thread nD τ) (0 : CellTallies nD τ sig Unit) W) ∗ bigSep Finset.univ (fun t => semVal (sendCell c t) 0) ∗ bigSep Finset.univ (fun t => semVal (recvCell c t) 0)
    ∗ (bigSep Finset.univ fun s : Fin 3 => iprop(∃ f : (bufM s).view.ref.ty.Contents (Elt F), ((bufM s).view.loc (c : Thread nD τ)) ↦{fullShare} f))
    ∗ (((c : Thread nD τ).loc cc0_scratch3) ↦{fullShare} w8v m ρ c) ∗ (((c : Thread nD τ).loc cc0_stg4_0) ↦{fullShare} outval m ρ c)
    ∗ stgI m ρ c)

/-- The last state gives it. -/
theorem leave (σ : Sg) (h1 : ∀ t, σ.ph t = 2) (h2 : ∀ t, σ.rp t = true) (h3 : ∀ u, σ.hd u = some fun _ => true) (h4 : σ.w8 = true) (h5 : ∀ u, σ.dn u = true) :
    St m ρ K c σ ⊢ post m ρ c := by
  obtain ⟨ph, rp, hd, w8, dn⟩ := σ
  obtain rfl : ph = fun _ => 2 := funext h1
  obtain rfl : rp = fun _ => true := funext h2
  obtain rfl : hd = fun _ => some fun _ => true := funext h3
  obtain rfl : w8 = true := h4
  obtain rfl : dn = fun _ => true := funext h5
  have ho : owe c (uns fun _ => 2) = 0 := owe_none c _ fun _ => rfl
  unfold St post oweI outI
  dsimp only
  unfold w8I
  dsimp only
  iintro ⟨-, -, HO, HS, HV, HH, HW, ⟨%f, %hf, HU⟩, HG⟩
  obtain rfl : f = outval m ρ c := funext fun x => hf x rfl
  isplitl [HO]
  · icases HO with ⟨%W, HO⟩
    iexists W
    iapply (Entails.of_eq (congrArg (fun o => owes (c : Thread nD τ) o W) ho))
    iexact HO
  isplitl [HS]; · iexact HS
  isplitl [HV]; · iexact HV
  isplitl [HH]; · iapply (slots_full m ρ c); iexact HH
  isplitl [HW]; · iexact HW
  isplitl [HU]; · iexact HU
  iexact HG

/-- The kernel's body, from a device's entry state to its exit state. -/
theorem body_run {Q : PUnit → sProp 𝕄} (hq : post m ρ c ⊢ Q ⟨⟩) :
    pre m ρ K c ⊢ WP c (cc0_body xM h0 wM h1 sxM h2 swM h3 outM h4 aM h5 bM h6 cM h7 w8M h8 cc0_scratch4 cc0_scratch5 cc0_scratch6 cc0_scratch7 cc0_scratch8 cc0_scratch9) Q := by
  rw [cc0_body_eq_skeleton]
  unfold cc0_body_skel
  refine bind_step c ?_
  refine part1 m ρ K c h0 h1 h2 h3 h4 h5 h6 h7 h8 fun _ _ _ _ => ?_
  refine bind_step c ?_
  refine part2 m ρ K c h0 h1 h2 h3 h4 h5 h6 h7 h8 _ _ _ fun _ => ?_
  refine bind_step c ?_
  refine part3 m ρ K c h0 h1 h2 h3 h4 h5 h6 h7 h8 _ fun _ _ _ _ _ _ => ?_
  refine bind_step c ?_
  refine part4 m ρ K c h0 h1 h2 h3 h4 h5 h6 h7 h8 _ _ _ _ fun _ _ => ?_
  refine bind_step c ?_
  refine part5 m ρ K c h0 h1 h2 h3 h4 h5 h6 h7 h8 _ _ _ ?_
  refine bind_step c ?_
  refine part6 m ρ K c h0 h1 h2 h3 h4 h5 h6 h7 h8 _ _ fun _ _ => ?_
  refine bind_step c ?_
  refine part7 m ρ K c h0 h1 h2 h3 h4 h5 h6 h7 h8 _ _ _ _ fun _ => ?_
  refine bind_step c ?_
  refine part8 m ρ K c h0 h1 h2 h3 h4 h5 h6 h7 h8 _ fun _ _ _ => ?_
  refine bind_step c ?_
  refine part9 m ρ K c h0 h1 h2 h3 h4 h5 h6 h7 h8 _ _ fun _ _ => ?_
  refine bind_step c ?_
  refine part10 m ρ K c h0 h1 h2 h3 h4 h5 h6 h7 h8 _ fun _ _ _ => ?_
  refine bind_step c ?_
  refine part11 m ρ K c h0 h1 h2 h3 h4 h5 h6 h7 h8 _ _ ?_
  refine bind_step c ?_
  refine part12 m ρ K c h0 h1 h2 h3 h4 h5 h6 h7 h8 _ _ ?_
  refine bind_step c ?_
  refine part13 m ρ K c h0 h1 h2 h3 h4 h5 h6 h7 h8 _ fun _ _ => ?_
  refine bind_step c ?_
  refine part14 m ρ K c h0 h1 h2 h3 h4 h5 h6 h7 h8 _ _ _ fun _ _ _ => ?_
  refine bind_step c ?_
  refine part15 m ρ K c h0 h1 h2 h3 h4 h5 h6 h7 h8 _ _ _ _ fun _ => ?_
  refine bind_step c ?_
  refine part16 m ρ K c h0 h1 h2 h3 h4 h5 h6 h7 h8 _ _ fun _ => ?_
  refine bind_step c ?_
  refine part17 m ρ K c h0 h1 h2 h3 h4 h5 h6 h7 h8 _ fun _ _ => ?_
  refine bind_step c ?_
  refine part18 m ρ K c h0 h1 h2 h3 h4 h5 h6 h7 h8 _ _ fun _ => ?_
  refine bind_step c ?_
  refine part19 m ρ K c h0 h1 h2 h3 h4 h5 h6 h7 h8 _ _ ?_
  refine bind_step c ?_
  refine part20 m ρ K c h0 h1 h2 h3 h4 h5 h6 h7 h8 _ _ ?_
  refine bind_step c ?_
  refine part21 m ρ K c h0 h1 h2 h3 h4 h5 h6 h7 h8 _ _ ?_
  refine bind_step c ?_
  refine part22 m ρ K c h0 h1 h2 h3 h4 h5 h6 h7 h8 _ _ ?_
  refine bind_step c ?_
  refine part23 m ρ K c h0 h1 h2 h3 h4 h5 h6 h7 h8 _ _ ?_
  refine bind_step c ?_
  refine part24 m ρ K c h0 h1 h2 h3 h4 h5 h6 h7 h8 _ _ ?_
  refine bind_step c ?_
  refine part25 m ρ K c h0 h1 h2 h3 h4 h5 h6 h7 h8 _ _ fun _ => ?_
  refine bind_step c ?_
  refine part26 m ρ K c h0 h1 h2 h3 h4 h5 h6 h7 h8 _ _ _ _ ?_
  refine bind_step c ?_
  refine part27 m ρ K c h0 h1 h2 h3 h4 h5 h6 h7 h8 _ _ ?_
  refine bind_step c ?_
  refine part28 m ρ K c h0 h1 h2 h3 h4 h5 h6 h7 h8 _ _ ?_
  refine bind_step c ?_
  refine part29 m ρ K c h0 h1 h2 h3 h4 h5 h6 h7 h8 _ _ ?_
  refine bind_step c ?_
  refine part30 m ρ K c h0 h1 h2 h3 h4 h5 h6 h7 h8 _ _ fun _ => ?_
  simp only [Prog.lift, Prog.bind_op, Prog.bind_ret, Prog.pure_eq_ret]
  refine ev_load m ρ K c 90 0 7 (by decide +kernel) (off11 c 4 3) ?_
  refine ev_w8 m ρ K c 90 (by decide) ?_
  refine step_out_dead m ρ K c _ fun _ => ?_
  refine ev_out m ρ K c 90 0 7 rfl (off12 c 4 3 0) rfl ?_
  obtain ⟨e1, e2, e3, e4, e5⟩ := sg_end
  exact ret_step c ((leave m ρ K c (sg 91) e1 e2 e3 e4 e5).trans hq)

end Cert.KernelIdealProof

end
-- ==== Proof.KernelIdealBodyOb.lean ====
/-
The launch: every device's cells opened at once, the tokens and credits dealt to their payers, and the run of the
whole program.
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The staged windows and the device's data -/

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

/-- A staging buffer at named contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The kernel's own semaphores. -/
def osem (bt : Bool × T) : SemLoc sig := csem (some bt)

theorem ownSemFacts : Pipeline.OwnSemFacts cfg0.spec osem := by decide +kernel

/-- What a device's own share of the exchange is at launch: every cell's record, its places, its tokens. -/
def dealt (c : Dev nD) : sProp 𝕄 :=
  iprop(∃ K : Dev nD × CI → ℕ, records m ρ K ∗ atPos ER (barCell c) 0 ∅ 0 ∗ (bigSep Finset.univ fun e : Fin 3 => dutyTok ER (barCell (xr c (nb e))) 0 e)
    ∗ bigSep Finset.univ (fun t => tokI c t) ∗ bigSep Finset.univ (fun t => atPos ER (recvCell c t) 0 ∅ 0))
/-- With its credits and the levels. -/
def start (c : Dev nD) : sProp 𝕄 :=
  iprop(dealt m ρ c ∗ cred (tallyAt (barCell c) () 3) ∗ (bigSep Finset.univ fun t : T => cred (tallyAt (recvCell c t) () (N t.1))) ∗ levAts L lv)

/-- The buffers at some contents. -/
def bufs (c : Dev nD) : sProp 𝕄 :=
  bigSep Finset.univ fun s : Fin 3 => iprop(∃ f : (bufM s).view.ref.ty.Contents (Elt F), ((bufM s).view.loc (c : Thread nD τ)) ↦{fullShare} f)

def Φ₀ (c : Dev nD) : sProp 𝕄 := iprop(start m ρ c ∗ bufs c ∗ w8I m ρ c false)
def Φ₁ (c : Dev nD) : sProp 𝕄 :=
  iprop(bufs c ∗ w8I m ρ c false ∗ bigSep Finset.univ (fun t => semVal (sendCell c t) 0) ∗ bigSep Finset.univ (fun t => semVal (recvCell c t) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outval m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

def t₀ : Fin cfg0.N := t0_0
theorem fin_N (t : Fin cfg0.N) : t = t₀ := fin_N0 t

theorem before_x (c : Dev nD) (d) : (dats (F := F) m ρ 0 c).before (0 : Fin 5) t₀ d = xstg m ρ c := by unfold Dat.before; rw [if_pos (by rfl)]; rfl
theorem before_w (c : Dev nD) (d) : (dats (F := F) m ρ 0 c).before (1 : Fin 5) t₀ d = wstg m ρ c := by unfold Dat.before; rw [if_pos (by rfl)]; rfl
theorem before_sx (c : Dev nD) (d) : (dats (F := F) m ρ 0 c).before (2 : Fin 5) t₀ d = sxstg m ρ c := by unfold Dat.before; rw [if_pos (by rfl)]; rfl
theorem before_sw (c : Dev nD) (d) : (dats (F := F) m ρ 0 c).before (3 : Fin 5) t₀ d = swstg m ρ c := by unfold Dat.before; rw [if_pos (by rfl)]; rfl

/-! ## The body -/

def bodyPost (c : Dev nD) : sProp 𝕄 :=
  iprop(Φ₁ m ρ c ∗ (dats m ρ 0 c).owesAt () t₀.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outval m ρ c))

def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- A staged input at what it was fetched as. -/
theorem stg_in (c : Dev nD) (b : Ref sig .tc) {D : Type} (g : D → b.ty.Contents (Elt F)) (X : b.ty.Contents (Elt F)) (h : ∀ d, g d = X) :
    (iprop(∃ d, stg c b (g d)) : sProp 𝕄) ⊢ (((c : Thread nD τ).loc b) ↦{fullShare} X) := by
  iintro ⟨%d, %f, %hf, H⟩
  obtain rfl : f = X := hf.trans (h d)
  iexact H
theorem stg_out (c : Dev nD) (b : Ref sig .tc) (X : b.ty.Contents (Elt F)) : ((((c : Thread nD τ).loc b) ↦{fullShare} X : sProp 𝕄)) ⊢ stg c b X := by
  iintro H
  iexists X
  isplitr; · ipureintro; rfl
  iexact H
theorem out_in (c : Dev nD) {D : Type} (g : D → (cc0_stg4_0 : Ref sig .tc).ty.Contents (Elt F)) :
    (iprop(∃ d, stg c cc0_stg4_0 (g d)) : sProp 𝕄) ⊢ outI m ρ c (fun _ => false) := by
  unfold outI
  iintro ⟨%d, %f, -, H⟩
  iexists f
  isplitr; · ipureintro; exact fun x hx => absurd hx Bool.false_ne_true
  iexact H

/-- The receive cells' credits and places are the receives not yet made. -/
theorem rcv_in (c : Dev nD) : iprop((bigSep Finset.univ fun t : T => cred (tallyAt (recvCell c t) () (N t.1))) ∗ bigSep Finset.univ (fun t => atPos ER (recvCell c t) 0 ∅ 0))
    ⊢ (bigSep Finset.univ (fun t => rcvI c t false) : sProp 𝕄) := by
  rw [← bigSep_sep']
  exact (Entails.of_eq rfl)

theorem w8_out (c : Dev nD) : ((((c : Thread nD τ).loc cc0_scratch3) ↦{fullShare} w8v m ρ c : sProp 𝕄)) ⊢ w8I m ρ c false := by
  show _ ⊢ iprop(∃ f : Buf (Elt F) ((c : Thread nD τ).loc cc0_scratch3), ((c : Thread nD τ).loc cc0_scratch3) ↦{fullShare} f)
  iintro H
  iexists (w8v m ρ c)
  iexact H

set_option maxRecDepth 4000 in
theorem pre_in (c : Dev nD) : bodyPre m ρ c ⊢ iprop(∃ K, pre m ρ K c) := by
  unfold bodyPre Φ₀ start dealt bufs
  iintro ⟨⟨⟨⟨%K, #HR, HaB, HtB, HT, HaV⟩, HcB, HcV, #HL⟩, HB, HW⟩, ⟨%W, -, HO⟩, H0, H1, H2, H3, H4⟩
  iexists K
  unfold pre barI
  isplitr; · iexact HR
  isplitr; · iexact HL
  isplitl [HO]; · iexists W; iexact HO
  isplitl [HcB HaB HtB]
  · isplitl [HcB]; · iexact HcB
    isplitl [HaB] <;> iassumption
  isplitl [HT]; · iexact HT
  isplitl [HcV HaV]
  · iapply (rcv_in c)
    isplitl [HcV] <;> iassumption
  isplitl [HB]; · iexact HB
  isplitl [HW]; · iexact HW
  isplitl [H4]; · iapply (out_in m ρ c _); iexact H4
  isplitl [H0]; · iapply (stg_in c _ _ _ (before_x m ρ c)); iexact H0
  isplitl [H1]; · iapply (stg_in c _ _ _ (before_w m ρ c)); iexact H1
  isplitl [H2]; · iapply (stg_in c _ _ _ (before_sx m ρ c)); iexact H2
  iapply (stg_in c _ _ _ (before_sw m ρ c)); iexact H3

set_option maxRecDepth 4000 in
theorem post_out (c : Dev nD) : post m ρ c ⊢ bodyPost m ρ c := by
  unfold post bodyPost Φ₁ stgI bufs
  iintro ⟨⟨%W, HO⟩, HS, HV, HB, HW, HU, H0, H1, H2, H3, HZ⟩
  isplitl [HS HV HB HW HZ]
  · isplitl [HB]; · iexact HB
    isplitl [HW]; · iapply (w8_out m ρ c); iexact HW
    isplitl [HS]; · iexact HS
    isplitl [HV] <;> iassumption
  isplitl [HO]
  · unfold Dat.owesAt Pipeline.owesWithin
    iexists W
    isplitr; · ipureintro; exact fun _ _ => Or.inl trivial
    iexact HO
  isplitl [H0]; · iapply (stg_out c _ _); iexact H0
  isplitl [H1]; · iapply (stg_out c _ _); iexact H1
  isplitl [H2]; · iapply (stg_out c _ _); iexact H2
  isplitl [H3]; · iapply (stg_out c _ _); iexact H3
  iapply (stg_out c _ _); iexact HU

set_option maxRecDepth 60000 in
/-- The body's obligation on a device. -/
theorem body_obligation (c : Dev nD) : BodyObligation (dats (F := F) m ρ 0 c) (defs₀ (F := F)) 𝒱₀ () Set.univ := fun t => by
  rw [fin_N t]
  rw [bigSep_W, bigSep_W]
  simp only [owns_stg]
  show bodyPre m ρ c ⊢ WP c (cc0_body xM (Memref.isWhole_whole _) wM (Memref.isWhole_whole _) sxM (Memref.isWhole_whole _) swM (Memref.isWhole_whole _) outM (Memref.isWhole_whole _)
      aM (Memref.isWhole_whole _) bM (Memref.isWhole_whole _) cM (Memref.isWhole_whole _) w8M (Memref.isWhole_whole _)
      cc0_scratch4 cc0_scratch5 cc0_scratch6 cc0_scratch7 cc0_scratch8 cc0_scratch9) (fun _ => bodyPost m ρ c)
  refine (pre_in m ρ c).trans ?_
  iintro ⟨%K, H⟩
  iapply (body_run m ρ K c (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Q := fun _ => bodyPost m ρ c) (post_out m ρ c))
  iexact H

end Cert.KernelIdealProof

end
-- ==== Proof.KernelIdealGhost.lean ====
/-
The exchange's ghost state: minted for every device, opened into the cells' invariants, and dealt to the devices
that pay or claim it; and the credits each device is launched with.
-/
module

public import proofs.«01_k».proof.Proof.KernelIdealBodyOb

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Every cell -/

theorem csem_inj : Function.Injective csem := by
  intro i j h
  have h' := congrArg dec h
  have e : ∀ k : CI, dec (csem k) = some k := fun k => by
    rcases k with _ | ⟨_ | _, t⟩
    · exact dec_bar
    · exact dec_send t
    · exact dec_recv t
  rw [e, e] at h'
  exact Option.some.inj h'

theorem kcell_inj : Function.Injective (kcell : Dev nD × CI → GSem nD τ sig) := by
  rintro ⟨c, k⟩ ⟨d, j⟩ h
  have h1 : c = d := congrArg (fun g : GSem nD τ sig => g.1.1) h
  have h2 : k = j := csem_inj (congrArg Prod.snd h)
  rw [h1, h2]

def allCells : Finset (GSem nD τ sig) := Finset.univ.map ⟨kcell, kcell_inj⟩
/-- A token for each cell's round 0 and each name of a duty (those that name none are not used). -/
def tokAt (x : (Dev nD × CI) × Fin 3) : GSem nD τ sig × ℕ × Fin 3 := (kcell x.1, 0, x.2)
theorem tokAt_inj : Function.Injective tokAt := by
  rintro ⟨a, d⟩ ⟨b, e⟩ h
  have h1 : a = b := kcell_inj (congrArg Prod.fst h)
  have h2 : d = e := congrArg (fun x : GSem nD τ sig × ℕ × Fin 3 => x.2.2) h
  rw [h1, h2]
def allToks : Finset (GSem nD τ sig × ℕ × Fin 3) := Finset.univ.map ⟨tokAt, tokAt_inj⟩

def u₀ : UU := (initOf (Pipeline.cells cfgs cellOf_inj) (Pipeline.launchToks cfgs cellOf_inj), initOf allCells allToks)

/-- What is minted for device `c`. -/
def minted (c : Dev nD) : sProp 𝕄 :=
  iprop((bigSep Finset.univ fun i : CI => roundState ER (Rd m ρ) (kcell (c, i)) 0) ∗ (bigSep Finset.univ fun i : CI => reached ER (kcell (c, i)) 0)
    ∗ (bigSep Finset.univ fun i : CI => atPos ER (kcell (c, i)) 0 ∅ 0) ∗ bigSep Finset.univ fun i : CI => bigSep Finset.univ fun d : Fin 3 => dutyTok ER (kcell (c, i)) 0 d)

theorem mint : BI.own (ER (initOf allCells allToks)) ⊢ (|==> bigSep Finset.univ (minted m ρ) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun i : CI => bigSep Finset.univ fun d : Fin 3 => dutyTok ER (kcell (c, i)) 0 d := by
    unfold allToks; rw [bigSep_map, bigSep_univ_prod, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold minted; simp only [bigSep_sep']
  isplitl [Hst]; · iexact Hst
  isplitl [Hr]; · iexact Hr
  isplitl [Hat] <;> iassumption

/-! ## A device's cells: the barrier's, the send cells, the receive cells -/

theorem by_kind (Φ : Bool × T → sProp 𝕄) : bigSep Finset.univ Φ = iprop(bigSep Finset.univ (fun t => Φ (false, t)) ∗ bigSep Finset.univ fun t => Φ (true, t)) := by
  rw [bigSep_univ_prod]
  exact bigSep_univ_eq_bigSepL [false, true] (by decide) (by decide) fun b => bigSep Finset.univ fun t => Φ (b, t)

theorem by_cell (Φ : CI → sProp 𝕄) :
    bigSep Finset.univ Φ = iprop(Φ none ∗ bigSep Finset.univ (fun t => Φ (some (false, t))) ∗ bigSep Finset.univ fun t => Φ (some (true, t))) := by
  have h : (Finset.univ.erase none : Finset CI) = Finset.univ.map Function.Embedding.some := by decide
  have h1 : bigSep (Finset.univ.erase none) Φ = bigSep Finset.univ fun bt : Bool × T => Φ (some bt) := by rw [h, bigSep_map]; rfl
  rw [bigSep_univ_split (none : CI), h1, by_kind]
  rfl

theorem ownSems_eq (c : Dev nD) : (Pipeline.ownSems0 (Ix := Unit) (Name := ℕ) (U := UU) (Lvl := ℕ) (Val := Elt F) (τ := τ) osem c : sProp 𝕄)
    = iprop(bigSep Finset.univ (fun t => semVal (sendCell c t) 0) ∗ bigSep Finset.univ fun t => semVal (recvCell c t) 0) := by
  unfold Pipeline.ownSems0
  rw [by_kind]
  rfl
theorem unscopedSems_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems_eq, unscopedSems_eq, by_cell]
  iintro ⟨HS, HB⟩
  isplitl [HB]; · iexact HB
  iexact HS

/-! ## The cells opened -/

/-- A device's cells, opened, with what is left of its mint. -/
def opened (c : Dev nD) : sProp 𝕄 :=
  iprop((bigSep Finset.univ fun i : CI => iprop(∃ κ : ℕ, cellInv ER (Rd m ρ) κ (kcell (c, i)) ∗ reached ER (kcell (c, i)) 0))
    ∗ (bigSep Finset.univ fun i : CI => atPos ER (kcell (c, i)) 0 ∅ 0) ∗ bigSep Finset.univ fun i : CI => bigSep Finset.univ fun d : Fin 3 => dutyTok ER (kcell (c, i)) 0 d)

theorem open_one (g : GSem nD τ sig) : iprop((semVal g 0 ∗ roundState ER (Rd m ρ) g 0) ∗ reached ER g 0) ⊢ (|={Set.univ}=> iprop(∃ κ : ℕ, cellInv ER (Rd m ρ) κ g ∗ reached ER g 0) : sProp 𝕄) := by
  iintro ⟨H, Hr⟩
  imod ((Rounds.body_intro ER (Rd m ρ) g).trans inv_alloc) $$ H with ⟨%κ, HI⟩
  imodintro
  iexists κ
  isplitl [HI] <;> iassumption

theorem open_cells (c : Dev nD) :
    iprop(Pipeline.ownSems0 (Ix := Unit) (Name := ℕ) (U := UU) (Lvl := ℕ) (Val := Elt F) (τ := τ) osem c ∗ unscopedSems0 c ∗ minted m ρ c)
      ⊢ |={Set.univ}=> opened m ρ c := by
  have h : iprop(((bigSep Finset.univ fun i : CI => semVal (kcell (c, i)) 0) ∗ bigSep Finset.univ fun i : CI => roundState ER (Rd m ρ) (kcell (c, i)) 0) ∗ bigSep Finset.univ fun i : CI => reached ER (kcell (c, i)) 0)
      ⊢ (|={Set.univ}=> bigSep Finset.univ fun i : CI => iprop(∃ κ : ℕ, cellInv ER (Rd m ρ) κ (kcell (c, i)) ∗ reached ER (kcell (c, i)) 0) : sProp 𝕄) := by
    rw [← bigSep_sep', ← bigSep_sep']
    exact (bigSep_mono fun i _ => open_one m ρ (kcell (c, i))).trans (bigSep_fupd _ _)
  unfold minted opened
  iintro ⟨Ho, Hu, Hst, Hr, Hat, Htok⟩
  ihave Hv := (sems_eq (F := F) c) $$ [Ho Hu]
  · isplitl [Ho] <;> iassumption
  imod h $$ [Hv Hst Hr] with HI
  · isplitl [Hv Hst]
    · isplitl [Hv] <;> iassumption
    iexact Hr
  imodintro
  isplitl [HI]; · iexact HI
  isplitl [Hat] <;> iassumption

/-! ## The tokens dealt to their payers -/

/-- Across the axes `a`: an involution of the devices. -/
def across (a : Fin 8) : Fin 8 ≃ Fin 8 := ⟨fun c => xr c a, fun c => xr c a, fun c => xr_xr c a, fun c => xr_xr c a⟩

/-- Each member of a family moved across its own axes. -/
theorem moved {I : Type} [Fintype I] (g : I → Fin 8) (Ψ : Dev nD → I → sProp 𝕄) :
    (bigSep Finset.univ fun c : Dev nD => bigSep Finset.univ fun i => Ψ c i) = bigSep Finset.univ fun c : Dev nD => bigSep Finset.univ fun i => Ψ (xr c (g i)) i := by
  rw [bigSep_univ_comm, bigSep_univ_comm (fun (c : Dev nD) i => Ψ (xr c (g i)) i)]
  exact bigSep_congr fun i _ => bigSep_univ_equiv (across (g i)) fun c => Ψ c i

/-- The one duty of a cell of a transfer. -/
theorem duty_one (Φ : Fin 3 → sProp 𝕄) : bigSep Finset.univ Φ ⊢ Φ 0 := bigSep_elim (Finset.mem_univ _)

theorem toks_split (c : Dev nD) : (bigSep Finset.univ fun i : CI => bigSep Finset.univ fun d : Fin 3 => (dutyTok ER (kcell (c, i)) 0 d : sProp 𝕄))
    ⊢ iprop((bigSep Finset.univ fun e : Fin 3 => dutyTok ER (barCell c) 0 e) ∗ (bigSep Finset.univ fun t : T => dutyTok ER (sendCell c t) 0 0) ∗ bigSep Finset.univ fun t : T => dutyTok ER (recvCell c t) 0 0) := by
  rw [by_cell]
  exact BI.sep_mono (show _ ⊢ bigSep Finset.univ (fun e : Fin 3 => dutyTok ER (barCell c) 0 e) from Entails.of_eq rfl) (BI.sep_mono (bigSep_mono fun t _ => duty_one fun d => dutyTok ER (sendCell c t) 0 d) (bigSep_mono fun t _ => duty_one fun d => dutyTok ER (recvCell c t) 0 d))

/-- What stays with a device: its places and the tokens it pays with. -/
def kept (c : Dev nD) : sProp 𝕄 :=
  iprop(atPos ER (barCell c) 0 ∅ 0 ∗ (bigSep Finset.univ fun e : Fin 3 => dutyTok ER (barCell (xr c (nb e))) 0 e)
    ∗ bigSep Finset.univ (fun t => tokI c t) ∗ bigSep Finset.univ (fun t => atPos ER (recvCell c t) 0 ∅ 0))

theorem toks_moved : (bigSep Finset.univ fun c : Dev nD => bigSep Finset.univ fun i : CI => bigSep Finset.univ fun d : Fin 3 => (dutyTok ER (kcell (c, i)) 0 d : sProp 𝕄))
    ⊢ iprop((bigSep Finset.univ fun c : Dev nD => bigSep Finset.univ fun e : Fin 3 => dutyTok ER (barCell (xr c (nb e))) 0 e)
      ∗ (bigSep Finset.univ fun c : Dev nD => bigSep Finset.univ fun t : T => dutyTok ER (sendCell c t) 0 0)
      ∗ bigSep Finset.univ fun c : Dev nD => bigSep Finset.univ fun t : T => dutyTok ER (recvCell (xr c (mE t)) t) 0 0) := by
  refine (bigSep_mono fun c _ => toks_split c).trans ?_
  rw [bigSep_sep', bigSep_sep', moved nb fun c e => dutyTok ER (barCell c) 0 e, moved mE fun c t => dutyTok ER (recvCell c t) 0 0]
  exact Entails.of_eq (rfl : (_ : sProp 𝕄) = _)

theorem tok_in (c : Dev nD) : iprop((bigSep Finset.univ fun t : T => dutyTok ER (sendCell c t) 0 0) ∗ (bigSep Finset.univ fun t : T => dutyTok ER (recvCell (xr c (mE t)) t) 0 0)
      ∗ bigSep Finset.univ fun t : T => atPos ER (sendCell c t) 0 ∅ 0) ⊢ (bigSep Finset.univ (fun t => tokI c t) : sProp 𝕄) := by
  rw [← bigSep_sep', ← bigSep_sep']
  exact (Entails.of_eq rfl)

theorem keep_in (c : Dev nD) : iprop((bigSep Finset.univ fun i : CI => atPos ER (kcell (c, i)) 0 ∅ 0) ∗ (bigSep Finset.univ fun e : Fin 3 => dutyTok ER (barCell (xr c (nb e))) 0 e)
      ∗ (bigSep Finset.univ fun t : T => dutyTok ER (sendCell c t) 0 0) ∗ bigSep Finset.univ fun t : T => dutyTok ER (recvCell (xr c (mE t)) t) 0 0) ⊢ (kept c : sProp 𝕄) := by
  rw [by_cell]
  unfold kept
  iintro ⟨⟨HaB, HaS, HaV⟩, HtB, HtS, HtV⟩
  isplitl [HaB]; · iexact HaB
  isplitl [HtB]; · iexact HtB
  isplitl [HaS HtS HtV]
  · iapply (tok_in c)
    isplitl [HtS]; · iexact HtS
    isplitl [HtV]; · iexact HtV
    iexact HaS
  iexact HaV

theorem dealt_in (K : Dev nD × CI → ℕ) (c : Dev nD) : iprop(records m ρ K ∗ kept c) ⊢ dealt m ρ c := by
  unfold kept dealt
  iintro ⟨#HR, HK⟩
  iexists K
  isplitr; · iexact HR
  iexact HK

/-- A persistent fact used at every member. -/
theorem with_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem deal_all : (bigSep Finset.univ fun c : Dev nD => opened m ρ c) ⊢ bigSep Finset.univ (dealt m ρ) := by
  unfold opened
  rw [bigSep_sep', bigSep_sep', ← bigSep_univ_prod (fun ci : Dev nD × CI => iprop(∃ κ : ℕ, cellInv ER (Rd m ρ) κ (kcell ci) ∗ reached ER (kcell ci) 0))]
  have hk : iprop((bigSep Finset.univ fun c : Dev nD => bigSep Finset.univ fun i : CI => atPos ER (kcell (c, i)) 0 ∅ 0)
      ∗ (bigSep Finset.univ fun c : Dev nD => bigSep Finset.univ fun e : Fin 3 => dutyTok ER (barCell (xr c (nb e))) 0 e)
      ∗ (bigSep Finset.univ fun c : Dev nD => bigSep Finset.univ fun t : T => dutyTok ER (sendCell c t) 0 0)
      ∗ bigSep Finset.univ fun c : Dev nD => bigSep Finset.univ fun t : T => dutyTok ER (recvCell (xr c (mE t)) t) 0 0) ⊢ (bigSep Finset.univ (kept : Dev nD → sProp 𝕄)) := by
    rw [← bigSep_sep', ← bigSep_sep', ← bigSep_sep']
    exact bigSep_mono fun c _ => keep_in c
  iintro ⟨HI, Hat, Htok⟩
  ihave HK := (BI.bigSep_exists_pi Finset.univ (fun (ci : Dev nD × CI) (κ : ℕ) => (iprop(cellInv ER (Rd m ρ) κ (kcell ci) ∗ reached ER (kcell ci) 0) : sProp 𝕄))) $$ HI
  icases HK with ⟨%K, HI⟩
  ihave Htok := (toks_moved (F := F)) $$ Htok
  iapply (with_all (R := records m ρ K) fun c => dealt_in m ρ K c)
  isplitl [HI]; · unfold records; iexact HI
  iapply hk
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ minted m ρ c) : sProp 𝕄)
    ⊢ |={Set.univ}=> bigSep Finset.univ (dealt m ρ) :=
  ((bigSep_mono fun c _ => open_cells m ρ c).trans (bigSep_fupd _ _)).trans (BI.fupd_mono (deal_all m ρ))

/-! ## The launch credit -/

theorem owed_bar (d c : Dev nD) : O₀ d (barCell c) () = ∑ e : Fin 3, if d = xr c (nb e) then 1 else 0 := by
  have h0 : owe d (fun _ => true) (barCell c) () = 0 := by
    by_contra h
    obtain ⟨t, -, h'⟩ := owe_pos (Nat.pos_of_ne_zero h)
    exact absurd (congrArg (fun g : GSem nD τ sig => dec g.2) h') (by rw [dec_bar, dec_recv]; exact fun h => by cases h)
  have h1 : ∀ a : Fin 8, (tallyAt (barCell (xr d a)) () 1 : CellTallies nD τ sig Unit) (barCell c) () = if d = xr c a then 1 else 0 := fun a => by
    rw [tallyAt_apply]
    by_cases h : d = xr c a
    · subst h; rw [xr_xr, if_pos ⟨rfl, rfl⟩, if_pos rfl]
    · rw [if_neg h, if_neg]
      rintro ⟨h', -⟩
      have h2 : c = xr d a := congrArg (fun g : GSem nD τ sig => g.1.1) h'
      exact h (by rw [h2, xr_xr])
  unfold O₀ O₁ O₂
  rw [Pi.add_apply, Finsupp.add_apply, Pi.add_apply, Finsupp.add_apply, Pi.add_apply, Finsupp.add_apply, h0, h1, h1, h1, Fin.sum_univ_three]
  show 0 + (if d = xr c 4 then 1 else 0) + (if d = xr c 3 then 1 else 0) + (if d = xr c 1 then 1 else 0) = (if d = xr c 1 then 1 else 0) + (if d = xr c 3 then 1 else 0) + (if d = xr c 4 then 1 else 0)
  omega

theorem owed_recv (d c : Dev nD) (t : T) : O₀ d (recvCell c t) () = if d = xr c (mE t) then N t.1 else 0 := by
  have h1 : ∀ a : Fin 8, (tallyAt (barCell (xr d a)) () 1 : CellTallies nD τ sig Unit) (recvCell c t) () = 0 := fun a => by
    rw [tallyAt_apply, if_neg]
    rintro ⟨h', -⟩
    exact absurd (congrArg (fun g : GSem nD τ sig => dec g.2) h') (by rw [dec_bar, dec_recv]; exact fun h => by cases h)
  have h2 : owe d (fun _ => true) (recvCell c t) () = if d = xr c (mE t) then N t.1 else 0 := by
    unfold owe
    rw [Finset.sum_apply, Finsupp.finset_sum_apply, Finset.sum_eq_single t]
    · rw [if_pos rfl, tallyAt_apply]
      by_cases h : d = xr c (mE t)
      · subst h; rw [xr_xr, if_pos ⟨rfl, rfl⟩, if_pos rfl]
      · rw [if_neg h, if_neg]
        rintro ⟨h', -⟩
        have h2 : c = xr d (mE t) := congrArg (fun g : GSem nD τ sig => g.1.1) h'
        exact h (by rw [h2, xr_xr])
    · intro u _ hu
      rw [if_pos rfl, tallyAt_apply, if_neg]
      rintro ⟨h', -⟩
      have h3 := congrArg (fun g : GSem nD τ sig => dec g.2) h'
      dsimp only at h3
      rw [dec_recv, dec_recv] at h3
      exact hu (congrArg Prod.snd (Option.some.inj (Option.some.inj h3))).symm
    · exact fun h => absurd (Finset.mem_univ _) h
  unfold O₀ O₁ O₂
  rw [Pi.add_apply, Finsupp.add_apply, Pi.add_apply, Finsupp.add_apply, Pi.add_apply, Finsupp.add_apply, h1, h1, h1, h2]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun e _ => Finset.sum_ite_eq' Finset.univ (xr c (nb e)) fun _ => 1]
  simp

theorem launch_recv (c : Dev nD) (t : T) :
    tallyOn (recvCell c t) (launchCredit (Pipeline.owing O₀) 0 (recvCell c t)) = (tallyAt (recvCell c t) () (N t.1) : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (xr c (mE t)) fun _ => N t.1,
    if_pos (Finset.mem_univ _)]

def recvEmb : T ↪ SemLoc sig := ⟨fun t => .dma (recvS t), fun t u h => by
  have h' := congrArg dec h
  dsimp only at h'
  rw [dec_recv, dec_recv] at h'
  exact congrArg Prod.snd (Option.some.inj (Option.some.inj h'))⟩

theorem creds (c : Dev nD) :
    (Pipeline.launchCred O₀ c : sProp 𝕄) ⊢ iprop(cred (tallyAt (barCell c) () 3) ∗ bigSep Finset.univ fun t : T => cred (tallyAt (recvCell c t) () (N t.1))) := by
  have hsub : Finset.univ.map recvEmb ⊆ (Finset.univ.erase (SemLoc.reg barS) : Finset (SemLoc sig)) := fun x hx => by
    obtain ⟨t, -, rfl⟩ := Finset.mem_map.mp hx
    exact Finset.mem_erase.mpr ⟨fun h => (by cases h), Finset.mem_univ _⟩
  unfold Pipeline.launchCred
  rw [bigSep_univ_at _ (SemLoc.reg barS), launch_bar]
  refine sep_mono_right ((bigSep_subset hsub).trans ?_)
  rw [bigSep_map]
  exact Entails.of_eq (bigSep_congr fun t _ => congrArg cred (launch_recv c t))

/-! ## The waits of the staging -/

theorem O₀_pos {c : Dev nD} {g : GSem nD τ sig} {u : Unit} (h : 0 < O₀ c g u) : (∃ d : Dev nD, g = barCell d) ∨ ∃ (d : Dev nD) (t : T), g = recvCell d t := by
  by_contra hn
  have h0 : owe c (fun _ => true) g u = 0 := by
    by_contra h'
    obtain ⟨t, -, rfl⟩ := owe_pos (Nat.pos_of_ne_zero h')
    exact hn (Or.inr ⟨_, _, rfl⟩)
  have h1 : ∀ a : Fin 8, (tallyAt (barCell (xr c a)) () 1 : CellTallies nD τ sig Unit) g u = 0 := fun a => by
    rw [tallyAt_apply]
    exact if_neg fun h' => hn (Or.inl ⟨_, h'.1⟩)
  unfold O₀ O₁ O₂ at h
  rw [Pi.add_apply, Finsupp.add_apply, Pi.add_apply, Finsupp.add_apply, Pi.add_apply, Finsupp.add_apply, h0, h1, h1, h1] at h
  exact absurd h (lt_irrefl 0)

theorem wait_stage (c : Dev nD) (q : DmaSem sig) (hq : decD q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, t, rfl⟩ <;> (rw [L_tc]; exact Finset.mem_singleton_self _))
      (fun p hp => by rw [Finset.mem_singleton.mp hp]; unfold lv; rw [show dec (SemLoc.dma q) = none from hq])
      (fun g u hg => by
        rcases O₀_pos hg with ⟨d, rfl⟩ | ⟨d, t, rfl⟩
        · rw [lv_bar]; exact Nat.one_pos
        · rw [lv_recv]; exact (by decide : ∀ t : T, 0 < lvT t) t)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

end Cert.KernelIdealProof

end
-- ==== Proof.KernelIdealLaunch.lean ====
/-
The whole program's run on the eight devices: it ends, with every counter at zero, the inputs as they were and each
device's result array at its block of the product.
-/
module

public import proofs.«01_k».proof.Proof.KernelIdealGhost
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem start_in (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  iintro ⟨-, HL, Hc, -, HD⟩
  ihave Hc := (creds (F := F) c) $$ Hc
  icases Hc with ⟨HB, HV⟩
  imodintro
  unfold start
  isplitl
  · isplitl [HD]; · iexact HD
    isplitl [HB]; · iexact HB
    isplitl [HV] <;> iassumption
  · iempintro

theorem buf3 (Φ : Fin 3 → sProp 𝕄) : bigSep Finset.univ Φ = iprop(Φ 0 ∗ Φ 1 ∗ Φ 2) := bigSep_univ_eq_bigSepL [(0 : Fin 3), 1, 2] (by decide) (by decide) Φ

/-- The kernel's scratch buffers are the three streams' and the copy of `w`'s. -/
theorem scratch_eq (c : Dev nD) : (Pipeline.scopedRest cfg0.spec c : sProp 𝕄) = iprop(bufs c ∗ w8I m ρ c false) := by
  have h : (Pipeline.scopedRest cfg0.spec c : sProp 𝕄) = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)) := scopedRest0_eq c
  rw [h, assoc4]
  unfold bufs
  rw [buf3]
  rfl

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq m ρ]
  unfold Φ₀
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scratch_eq m ρ, ownSems_eq, unscopedSems_eq]
  unfold Φ₁
  iintro ⟨HB, HW, HS, HV, HZ⟩
  isplitl [HZ]; · iexact HZ
  isplitl [HS HV]
  · isplitl [HS] <;> iassumption
  isplitl [HB] <;> iassumption

theorem share_eq (c : Dev nD) (w : Fin cfg0.W) : (dats m ρ 0 c).share w = fullShare := by unfold Dat.share; split <;> rfl

/-- Each device's arrays after the run. -/
def finalA (c : Dev nD) (w : Fin cfg0.W) : Buf (Elt F) ((cfg0.win w).arr.view.loc (c : Thread nD τ)) := (dats m ρ 0 c).arrAt w cfg0.N

set_option maxRecDepth 60000 in
/-- From any memory with zero counters every weakly fair execution of the program ends, each device's arrays at
    `finalA`, every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m ρ) (G' := dealt m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_in m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem final_x (c : Dev nD) : finalA m ρ c (0 : Fin 5) = m ((c : Thread nD τ).loc main_arg0) := (dats (F := F) m ρ 0 c).arrAt_in (0 : Fin 5) rfl _
theorem final_w (c : Dev nD) : finalA m ρ c (1 : Fin 5) = m ((c : Thread nD τ).loc main_arg1) := (dats (F := F) m ρ 0 c).arrAt_in (1 : Fin 5) rfl _
theorem final_sx (c : Dev nD) : finalA m ρ c (2 : Fin 5) = m ((c : Thread nD τ).loc main_arg2) := (dats (F := F) m ρ 0 c).arrAt_in (2 : Fin 5) rfl _
theorem final_sw (c : Dev nD) : finalA m ρ c (3 : Fin 5) = m ((c : Thread nD τ).loc main_arg3) := (dats (F := F) m ρ 0 c).arrAt_in (3 : Fin 5) rfl _

end Cert.KernelIdealProof

end
-- ==== Proof.Math.lean ====
/-
The values as extended reals: one element of the result, from a row of `x`, a column of `w` and the two scales' product,
as the kernel's product blocks give it and as the reference gives it.
-/
module

public import proofs.«01_k».proof.Proof.Gen.KernelIdeal.Skeleton
public import proofs.«01_k».proof.Proof.Gen.ReferenceIdeal.Skeleton
public import Idealize.ShloMosaic.Lib.MatmulPlain
public import Idealize.ShloMosaic.Lib.ValueIdx
public import Idealize.ShloMosaic.Lib.Pipeline.Value

@[expose] public section

noncomputable section

namespace Cert.ValueProof

open Idealize.ShloMosaic Idealize.ShloMosaic.ValueIdx
open scoped BigOperators

/-- `y / (1 + exp (-y))`. -/
def act (y : EReal) : EReal := Ideal.div y (1 + Ideal.exp (-y))

theorem exp_nonneg (y : EReal) : 0 ≤ Ideal.exp y := by
  induction y using EReal.rec with
  | bot => exact le_refl _
  | top => exact le_top
  | coe r => exact EReal.coe_nonneg.mpr (Real.exp_pos r).le

theorem one_add_exp_ne_zero (y : EReal) : 1 + Ideal.exp y ≠ 0 := by
  have h : (0 : EReal) < 1 + Ideal.exp y := lt_of_lt_of_le zero_lt_one (le_add_of_nonneg_right (exp_nonneg y))
  exact h.ne'

/-- `y` times its logistic is `act y`, at the infinities too. -/
theorem mul_logistic (y : EReal) : y * Ideal.logistic y = act y := by
  unfold act Ideal.logistic Ideal.div
  rw [if_neg (one_add_exp_ne_zero _), if_neg (one_add_exp_ne_zero _), one_mul]

/-- One element of the result. -/
def cell (s : EReal) (a b : Fin 4096 → EReal) : EReal := act ((∑ k, a k * b k) * s)

section Kernel
open Cert.KernelIdeal Cert.KernelIdeal.Gen

theorem cons_row {n : Nat} (r : Fin n) (k : Fin 4096) :
    (Fin.cons (⟨0, Nat.one_pos⟩ : Fin 1) (ix2 r k) : (⟨3, ![1, n, 4096]⟩ : Shape).Idx) = ix3 (0 : Fin 1) r k := by
  funext a
  match a with
  | ⟨0, _⟩ => rfl
  | ⟨1, _⟩ => rfl
  | ⟨2, _⟩ => rfl

/-- A product of a band of `n` rows: the slot's leading axis dropped, the product scaled, times its logistic. -/
theorem band_apply {n : Nat} (h : (⟨3, ![1, n, 4096]⟩ : Shape).ShapeCasts ⟨2, ![n, 4096]⟩) (s : EReal)
    (b : FVec Ideal ⟨3, ![1, n, 4096]⟩ .fp8e4m3) (w : FVec Ideal ⟨2, ![4096, 256]⟩ .fp8e4m3) (r : Fin n) (j : Fin 256) :
    (fun y : EReal => y * Ideal.logistic y) (FloatOps.matmul (F := Ideal) (DotDims.plain n 4096 256) none
        (shapeCast ⟨2, ![n, 4096]⟩ b h : FVec Ideal ⟨2, ![n, 4096]⟩ .fp8e4m3) w
        (constant ⟨2, ![n, 256]⟩ .f32 0x00000000#32) (ix2 r j) * s) = cell s (fun k => b (ix3 (0 : Fin 1) r k)) (fun k => w (ix2 k j)) := by
  show _ * Ideal.logistic _ = _
  rw [mul_logistic]
  unfold cell
  refine congrArg (fun z => act (z * s)) ?_
  rw [Ideal.matmul_plain_apply, constant_apply, Ideal.ofBits_zero_f32, zero_add]
  refine Finset.sum_congr rfl fun k _ => ?_
  exact congrArg (· * w (ix2 k j)) ((shapeCast_dropUnit_apply ![n, 4096] b h (ix2 r k)).trans (congrArg b (cons_row r k)))

theorem pay7_apply (s : EReal) (b : Vec Ideal S1x176x4096 .fp8e4m3) (w : Vec Ideal S4096x256 .fp8e4m3) (r : Fin 176) (j : Fin 256) :
    k0_pay7 (F := Ideal) s b w (ix2 r j) = cell s (fun k => b (ix3 (0 : Fin 1) r k)) (fun k => w (ix2 k j)) :=
  band_apply shapeCasts_S1x176x4096_S176x4096 s b w r j

theorem pay8_apply (s : EReal) (b : Vec Ideal S1x176x4096 .fp8e4m3) (w : Vec Ideal S4096x256 .fp8e4m3) (r : Fin 176) (j : Fin 256) :
    k0_pay8 (F := Ideal) s b w (ix2 r j) = cell s (fun k => b (ix3 (0 : Fin 1) r k)) (fun k => w (ix2 k j)) :=
  band_apply shapeCasts_S1x176x4096_S176x4096 s b w r j

theorem pay9_apply (s : EReal) (b : Vec Ideal S1x160x4096 .fp8e4m3) (w : Vec Ideal S4096x256 .fp8e4m3) (r : Fin 160) (j : Fin 256) :
    k0_pay9 (F := Ideal) s b w (ix2 r j) = cell s (fun k => b (ix3 (0 : Fin 1) r k)) (fun k => w (ix2 k j)) :=
  band_apply shapeCasts_S1x160x4096_S160x4096 s b w r j

/-- The band of `x` a device puts into its slot: the rows, under a leading axis of one. -/
theorem lead_apply {n : Nat} (h0 : (⟨2, ![n, 4096]⟩ : Shape).ShapeCasts ⟨2, ![n, 4096]⟩) (h1 : (⟨2, ![n, 4096]⟩ : Shape).ShapeCasts ⟨3, ![1, n, 4096]⟩)
    (h2 : (⟨3, ![1, n, 4096]⟩ : Shape).ShapeCasts ⟨3, ![1, n, 4096]⟩) (v : (⟨2, ![n, 4096]⟩ : Shape).Idx → EReal) (r : Fin n) (k : Fin 4096) :
    shapeCast ⟨3, ![1, n, 4096]⟩ (shapeCast ⟨3, ![1, n, 4096]⟩ (shapeCast ⟨2, ![n, 4096]⟩ v h0) h1) h2 (ix3 (0 : Fin 1) r k) = v (ix2 r k) := by
  rw [shapeCast_self _ h2, shapeCast_self v h0]
  refine (shapeCast_addUnit_apply ![n, 4096] v h1 (ix3 (0 : Fin 1) r k)).trans (congrArg v ?_)
  funext a
  match a with
  | ⟨0, _⟩ => rfl
  | ⟨1, _⟩ => rfl

theorem pay3_apply (v : Vec Ideal S176x4096 .fp8e4m3) (r : Fin 176) (k : Fin 4096) : k0_pay3 (F := Ideal) v (ix3 (0 : Fin 1) r k) = v (ix2 r k) :=
  lead_apply _ _ _ v r k
theorem pay4_apply (v : Vec Ideal S176x4096 .fp8e4m3) (r : Fin 176) (k : Fin 4096) : k0_pay4 (F := Ideal) v (ix3 (0 : Fin 1) r k) = v (ix2 r k) :=
  lead_apply _ _ _ v r k
theorem pay5_apply (v : Vec Ideal S160x4096 .fp8e4m3) (r : Fin 160) (k : Fin 4096) : k0_pay5 (F := Ideal) v (ix3 (0 : Fin 1) r k) = v (ix2 r k) :=
  lead_apply _ _ _ v r k
theorem pay6_eq (v : Vec Ideal S4096x256 .fp8e4m3) : k0_pay6 (F := Ideal) v = v := by
  show shapeCast _ (shapeCast _ v _) _ = v
  rw [shapeCast_self, shapeCast_self]

end Kernel

section Reference
open Cert.ReferenceIdeal Cert.ReferenceIdeal.Gen

theorem lo_eq : Named.named (F := Ideal) κ "lo" (φ := .f32) 0xC2700000#32 = (⊥ : EReal) := rfl
theorem hi_eq : Named.named (F := Ideal) κ "hi" (φ := .f32) 0x42700000#32 = (⊤ : EReal) := rfl

theorem ofBits_one : Ideal.ofBits .f32 0x3F800000#32 = 1 := by
  have h : ((8388608 : ℝ) : EReal) * (((2 ^ 23)⁻¹ : ℝ) : EReal) = 1 := by
    rw [← EReal.coe_mul]; norm_num
  simpa [Ideal.ofBits, Ideal.ieee] using h

/-- The product the reference takes. -/
abbrev refDot (x : FVec Ideal ⟨2, ![4096, 4096]⟩ .f32) (w : FVec Ideal ⟨2, ![4096, 2048]⟩ .f32) : FVec Ideal ⟨2, ![4096, 2048]⟩ .f32 :=
  FloatOps.matmul (F := Ideal) (DotDims.plain 4096 4096 2048) none x w (constant ⟨2, ![4096, 2048]⟩ .f32 0x00000000#32)

theorem refDot_apply (x : FVec Ideal ⟨2, ![4096, 4096]⟩ .f32) (w : FVec Ideal ⟨2, ![4096, 2048]⟩ .f32) (r : Fin 4096) (j : Fin 2048) :
    refDot x w (ix2 r j) = ∑ k, x (ix2 r k) * w (ix2 k j) := by
  unfold refDot
  rw [Ideal.matmul_plain_apply, constant_apply, Ideal.ofBits_zero_f32, zero_add]

/-- The reference's element: the same function of its row, column and scales. -/
theorem ref_apply (x : Vec Ideal S4096x4096 .fp8e4m3) (w : Vec Ideal S4096x2048 .fp8e4m3) (sx sw : EReal) (r : Fin 4096) (j : Fin 2048) :
    k0_pay1 (F := Ideal) x w sx sw (ix2 r j) = cell (sx * sw) (fun k => x (ix2 r k)) (fun k => w (ix2 k j)) := by
  show Ideal.div (refDot x w (ix2 r j) * (sx * sw))
    (Ideal.ofBits .f32 0x3F800000#32 + Ideal.exp (Ideal.ofBits .f32 0x00000000#32 - min (⊤ : EReal) (max (⊥ : EReal)
      (refDot x w (ix2 r j) * (sx * sw))))) = _
  rw [refDot_apply, ofBits_one, Ideal.ofBits_zero_f32, max_eq_right bot_le, min_eq_right le_top, zero_sub]
  rfl

end Reference

end Cert.ValueProof

end
-- ==== Proof.Value.lean ====
/-
The kernel's output and the reference's, element by element, as one function of the arrays, and the value claim: each
device's output is its block of columns of the reference's.
-/
module

public import proofs.«01_k».proof.Proof.Math
public import proofs.«01_k».proof.Proof.KernelIdealLaunch
public import proofs.«01_k».proof.Proof.Gen.ReferenceIdeal.Value
public import proofs.«01_k».proof.Defs
public import Idealize.ShloMosaic.Lib.VecWindow

@[expose] public section

noncomputable section

namespace Cert.ValueProof

open Idealize.ShloMosaic Idealize.ShloMosaic.TcCoe Idealize.ShloMosaic.ValueIdx Idealize.SL.Sem
open scoped BigOperators

section Kernel
open Cert.KernelIdeal Cert.KernelIdeal.Gen Cert.KernelIdealProof

variable (m : (ℓ : Loc nD τ sig) → Buf (Elt Ideal) ℓ) (ρ : Dev nD → PrngReg)

/-! ## Each window is the whole of its array -/

theorem idx_x : win0_0.index (0 : Fin 1) (0 : Fin 2) = 0 ∧ win0_0.index (0 : Fin 1) (1 : Fin 2) = 0 := by decide +kernel
theorem emb_x (j : S512x4096.Idx) : (win0_0.blk (0 : Fin 1)).view.emb j = j := by
  obtain ⟨e0, e1⟩ := idx_x
  funext a; apply Fin.ext
  match a with
  | ⟨0, _⟩ => show win0_0.index (0 : Fin 1) (0 : Fin 2) * 512 + 1 * (j 0).val = (j 0).val; omega
  | ⟨1, _⟩ => show win0_0.index (0 : Fin 1) (1 : Fin 2) * 4096 + 1 * (j 1).val = (j 1).val; omega
theorem idx_w : win0_1.index (0 : Fin 1) (0 : Fin 2) = 0 ∧ win0_1.index (0 : Fin 1) (1 : Fin 2) = 0 := by decide +kernel
theorem emb_w (j : S4096x256.Idx) : (win0_1.blk (0 : Fin 1)).view.emb j = j := by
  obtain ⟨e0, e1⟩ := idx_w
  funext a; apply Fin.ext
  match a with
  | ⟨0, _⟩ => show win0_1.index (0 : Fin 1) (0 : Fin 2) * 4096 + 1 * (j 0).val = (j 0).val; omega
  | ⟨1, _⟩ => show win0_1.index (0 : Fin 1) (1 : Fin 2) * 256 + 1 * (j 1).val = (j 1).val; omega
theorem idx_out : win0_4.index (0 : Fin 1) (0 : Fin 2) = 0 ∧ win0_4.index (0 : Fin 1) (1 : Fin 2) = 0 := by decide +kernel
theorem emb_out (j : S4096x256.Idx) : (win0_4.blk (0 : Fin 1)).view.emb j = j := by
  obtain ⟨e0, e1⟩ := idx_out
  funext a; apply Fin.ext
  match a with
  | ⟨0, _⟩ => show win0_4.index (0 : Fin 1) (0 : Fin 2) * 4096 + 1 * (j 0).val = (j 0).val; omega
  | ⟨1, _⟩ => show win0_4.index (0 : Fin 1) (1 : Fin 2) * 256 + 1 * (j 1).val = (j 1).val; omega

theorem xstg_apply (k : Dev nD) (j : S512x4096.Idx) : xstg m ρ k j = m ((k : Thread nD τ).loc main_arg0) j :=
  congrArg (m ((k : Thread nD τ).loc main_arg0)) (emb_x j)
theorem wstg_apply (k : Dev nD) (j : S4096x256.Idx) : wstg m ρ k j = m ((k : Thread nD τ).loc main_arg1) j :=
  congrArg (m ((k : Thread nD τ).loc main_arg1)) (emb_w j)

/-- Every place of a one-element array is the place `0`. -/
theorem one_place (i j : S1.Idx) : i = j := funext fun a => match a with | ⟨0, _⟩ => Subsingleton.elim (α := Fin 1) _ _

theorem scl_eq (c : Dev nD) : scl m ρ c = (HMul.hMul (α := EReal) (β := EReal) (m ((c : Thread nD τ).loc main_arg2) (ix1 0)) (m ((c : Thread nD τ).loc main_arg3) (ix1 0)) : EReal) :=
  congrArg₂ (fun a b : EReal => a * b) (congrArg (m ((c : Thread nD τ).loc main_arg2)) (one_place _ _))
    (congrArg (m ((c : Thread nD τ).loc main_arg3)) (one_place _ _))

theorem w8v_apply (c : Dev nD) (k : Fin 4096) (n : Fin 256) : w8v m ρ c (ix2 k n) = m ((c : Thread nD τ).loc main_arg1) (ix2 k n) := by
  unfold w8v
  rw [pay6_eq]
  refine Eq.trans ?_ (wstg_apply m ρ c _)
  refine congrArg (wstg m ρ c) ?_
  funext a; apply Fin.ext
  match a with
  | ⟨0, _⟩ => show 0 + 1 * k.val = k.val; omega
  | ⟨1, _⟩ => show 0 + 1 * n.val = n.val; omega

/-! ## One element of the kernel's output -/

theorem row_lt (s : Fin 3) (r : Fin (rows s)) : offs s + r.val < 512 := by
  have h := r.isLt
  match s with
  | 0 => simp only [rows, offs] at *; omega
  | 1 => simp only [rows, offs] at *; omega
  | 2 => simp only [rows, offs] at *; omega

/-- A load of `n` rows of the staged `x` from row `o` on. -/
theorem load_rows (k : Dev nD) (o n : Nat) (inb : ∀ a, (![o, 0] : Fin 2 → Nat) a + (![n, 4096] : Fin 2 → Nat) a ≤ S512x4096.size a) (r : Fin n) (j : Fin 4096)
    (q : Fin 512) (hq : q.val = o + r.val) :
    (Memref.whole cc0_stg0_0 : Memref sig .tc .vmem S512x4096 .fp8e4m3).view.readAt (Elt Ideal) (Rect.unit (s := S512x4096) ![o, 0] ![n, 4096] inb).toLoadRect
      (xstg m ρ k) (ix2 r j) = m ((k : Thread nD τ).loc main_arg0) (ix2 q j) := by
  refine Eq.trans ?_ (xstg_apply m ρ k (ix2 q j))
  show xstg m ρ k ((Rect.unit (s := S512x4096) ![o, 0] ![n, 4096] inb).emb (ix2 r j)) = _
  refine congrArg (xstg m ρ k) ?_
  funext a; apply Fin.ext
  match a with
  | ⟨0, _⟩ => show o + 1 * r.val = q.val; omega
  | ⟨1, _⟩ => show 0 + 1 * j.val = j.val; omega

/-- A band's row, in the slot, is the row of the device's block of `x`. -/
theorem blk_apply (s : Fin 3) (k : Fin 8) (r : Fin (rows s)) (j : Fin 4096) :
    blk m ρ s k (ix3 (0 : Fin 1) r j) = m (((k : Dev nD) : Thread nD τ).loc main_arg0) (ix2 ⟨offs s + r.val, row_lt s r⟩ j) := by
  match s with
  | 0 =>
    have e1 := pay3_apply ((Memref.whole cc0_stg0_0 : Memref sig .tc .vmem S512x4096 .fp8e4m3).view.readAt (Elt Ideal)
      (Rect.unit (s := S512x4096) ![0, 0] S176x4096.size inb_S512x4096_S176x4096_0_0).toLoadRect (xstg m ρ k)) r j
    have e2 := load_rows m ρ k 0 176 inb_S512x4096_S176x4096_0_0 r j ⟨offs 0 + r.val, row_lt 0 r⟩ (congrArg (· + r.val) (show offs 0 = 0 from rfl))
    exact e1.trans e2
  | 1 =>
    have e1 := pay4_apply ((Memref.whole cc0_stg0_0 : Memref sig .tc .vmem S512x4096 .fp8e4m3).view.readAt (Elt Ideal)
      (Rect.unit (s := S512x4096) ![176, 0] S176x4096.size inb_S512x4096_S176x4096_176_0).toLoadRect (xstg m ρ k)) r j
    have e2 := load_rows m ρ k 176 176 inb_S512x4096_S176x4096_176_0 r j ⟨offs 1 + r.val, row_lt 1 r⟩ (congrArg (· + r.val) (show offs 1 = 176 from rfl))
    exact e1.trans e2
  | 2 =>
    have e1 := pay5_apply ((Memref.whole cc0_stg0_0 : Memref sig .tc .vmem S512x4096 .fp8e4m3).view.readAt (Elt Ideal)
      (Rect.unit (s := S512x4096) ![352, 0] S160x4096.size inb_S512x4096_S160x4096_352_0).toLoadRect (xstg m ρ k)) r j
    have e2 := load_rows m ρ k 352 160 inb_S512x4096_S160x4096_352_0 r j ⟨offs 2 + r.val, row_lt 2 r⟩ (congrArg (· + r.val) (show offs 2 = 352 from rfl))
    exact e1.trans e2

theorem cmpv_apply (c : Dev nD) (s : Fin 3) (k : Fin 8) (r : Fin (rows s)) (n : Fin 256) :
    cmpv m ρ c s k (ix2 r n) = cell (scl m ρ c) (fun j => blk m ρ s k (ix3 (0 : Fin 1) r j)) (fun j => w8v m ρ c (ix2 j n)) := by
  match s with
  | 0 => exact pay7_apply _ _ _ r n
  | 1 => exact pay8_apply _ _ _ r n
  | 2 => exact pay9_apply _ _ _ r n

/-- The row of its owner's block that a row of the output comes from. -/
theorem own_row (x : S4096x256.Idx) : offs (own x).1 + ((x 0).val - (512 * (own x).2.val + offs (own x).1)) % rows (own x).1 = (x 0).val % 512 := by
  have hx : (x 0).val < 4096 := (x 0).isLt
  have h2 : (own x).2.val = (x 0).val / 512 := rfl
  rw [h2]
  unfold own
  dsimp only
  split
  · simp only [rows, offs]; omega
  · split <;> (simp only [rows, offs]; omega)

/-- The device a row of the output comes from. -/
def rowDev (r : Fin 4096) : Dev nD := ⟨r.val / 512, by show _ < 8; omega⟩

theorem outval_apply (c : Dev nD) (r : Fin 4096) (n : Fin 256) :
    outval m ρ c (ix2 r n) = cell ((HMul.hMul (α := EReal) (β := EReal) (m ((c : Thread nD τ).loc main_arg2) (ix1 0)) (m ((c : Thread nD τ).loc main_arg3) (ix1 0)) : EReal))
      (fun j => m (((rowDev r : Dev nD) : Thread nD τ).loc main_arg0) (ix2 ⟨r.val % 512, Nat.mod_lt _ (by omega)⟩ j))
      (fun j => m ((c : Thread nD τ).loc main_arg1) (ix2 j n)) := by
  have hb : inBand (own (ix2 r n)).1 (own (ix2 r n)).2 (ix2 r n)
      = ix2 ⟨(r.val - (512 * (own (ix2 r n)).2.val + offs (own (ix2 r n)).1)) % rows (own (ix2 r n)).1, Nat.mod_lt _ (rows_pos _)⟩ n := by
    funext a
    match a with
    | ⟨0, _⟩ => rfl
    | ⟨1, _⟩ => rfl
  unfold outval
  rw [hb, cmpv_apply, scl_eq]
  refine congrArg₂ (cell _) (funext fun j => ?_) (funext fun j => w8v_apply m ρ c j n)
  rw [blk_apply]
  refine congrArg (m _) ?_
  funext a
  match a with
  | ⟨0, _⟩ => exact Fin.ext (own_row (ix2 r n))
  | ⟨1, _⟩ => rfl

/-- The output array after the run. -/
theorem final_out (c : Dev nD) : finalA m ρ c (4 : Fin 5) = outval m ρ c := by
  refine (dats m ρ 0 c).arrAt_eq_of_cover (4 : Fin 5) (outval m ρ c) (fun t _ => ?_) (fun i => ⟨t₀, rfl, ?_⟩)
  · rw [fin_N t]
    funext j
    exact (congrArg (outval m ρ c) (emb_out j)).symm
  · have h := (win0_4.blk (0 : Fin 1)).view.emb_mem_set i
    rwa [emb_out] at h

end Kernel

section Reference
open Cert.ReferenceIdeal Cert.ReferenceIdeal.Gen Cert.ReferenceIdeal.Value

variable (m' : (ℓ : Loc nD τ sig) → Buf (Elt Ideal) ℓ)

/-! ## The reference's windows, each the whole of its array -/

theorem ref_idx_x : ∀ t : Fin cfg0.N, win0_0.index t (0 : Fin 2) = 0 ∧ win0_0.index t (1 : Fin 2) = 0 :=
  (by decide +kernel : ∀ t : Fin grid0.N, _)
theorem ref_emb_x (t : Fin cfg0.N) (j : S4096x4096.Idx) : ((cfg0.win 0).blk t).view.emb j = j := by
  obtain ⟨e0, e1⟩ := ref_idx_x t
  funext a; apply Fin.ext
  match a with
  | ⟨0, _⟩ => show win0_0.index t (0 : Fin 2) * 4096 + 1 * (j 0).val = (j 0).val; omega
  | ⟨1, _⟩ => show win0_0.index t (1 : Fin 2) * 4096 + 1 * (j 1).val = (j 1).val; omega
theorem ref_idx_w : ∀ t : Fin cfg0.N, win0_1.index t (0 : Fin 2) = 0 ∧ win0_1.index t (1 : Fin 2) = 0 :=
  (by decide +kernel : ∀ t : Fin grid0.N, _)
theorem ref_emb_w (t : Fin cfg0.N) (j : S4096x2048.Idx) : ((cfg0.win 1).blk t).view.emb j = j := by
  obtain ⟨e0, e1⟩ := ref_idx_w t
  funext a; apply Fin.ext
  match a with
  | ⟨0, _⟩ => show win0_1.index t (0 : Fin 2) * 4096 + 1 * (j 0).val = (j 0).val; omega
  | ⟨1, _⟩ => show win0_1.index t (1 : Fin 2) * 2048 + 1 * (j 1).val = (j 1).val; omega
theorem ref_idx_out : ∀ t : Fin cfg0.N, win0_4.index t (0 : Fin 2) = 0 ∧ win0_4.index t (1 : Fin 2) = 0 :=
  (by decide +kernel : ∀ t : Fin grid0.N, _)
theorem ref_emb_out (t : Fin cfg0.N) (j : S4096x2048.Idx) : ((cfg0.win 4).blk t).view.emb j = j := by
  obtain ⟨e0, e1⟩ := ref_idx_out t
  funext a; apply Fin.ext
  match a with
  | ⟨0, _⟩ => show win0_4.index t (0 : Fin 2) * 4096 + 1 * (j 0).val = (j 0).val; omega
  | ⟨1, _⟩ => show win0_4.index t (1 : Fin 2) * 2048 + 1 * (j 1).val = (j 1).val; omega

theorem one_place' (i j : S1.Idx) : i = j := funext fun a => match a with | ⟨0, _⟩ => Subsingleton.elim (α := Fin 1) _ _

/-- The reference's whole result. -/
def refv : Vec Ideal S4096x2048 .f32 :=
  k0_pay1 (F := Ideal) (m' (((0 : Dev nD) : Thread nD τ).loc main_arg0)) (m' (((0 : Dev nD) : Thread nD τ).loc main_arg1))
    (m' (((0 : Dev nD) : Thread nD τ).loc main_arg2) (ix1 0)) (m' (((0 : Dev nD) : Thread nD τ).loc main_arg3) (ix1 0))

theorem iblk_x (t : Fin cfg0.N) : iblk m' 0 0 t = m' (((0 : Dev nD) : Thread nD τ).loc main_arg0) := by
  funext j
  rw [← V_main_arg0 m' 0]
  exact congrArg (V m' 0 main_arg0) (ref_emb_x t j)
theorem iblk_w (t : Fin cfg0.N) : iblk m' 0 1 t = m' (((0 : Dev nD) : Thread nD τ).loc main_arg1) := by
  funext j
  rw [← V_main_arg1 m' 0]
  exact congrArg (V m' 0 main_arg1) (ref_emb_w t j)
theorem iblk_sx (t : Fin cfg0.N) (j : S1.Idx) : iblk m' 0 2 t j = m' (((0 : Dev nD) : Thread nD τ).loc main_arg2) (ix1 0) := by
  rw [← V_main_arg2 m' 0]
  exact congrArg (V m' 0 main_arg2) (one_place' _ _)
theorem iblk_sw (t : Fin cfg0.N) (j : S1.Idx) : iblk m' 0 3 t j = m' (((0 : Dev nD) : Thread nD τ).loc main_arg3) (ix1 0) := by
  rw [← V_main_arg3 m' 0]
  exact congrArg (V m' 0 main_arg3) (one_place' _ _)

/-- The reference's run stores its one payload over the whole block. -/
theorem stored (c : Dev nD) (a0 : Memref sig .tc .vmem S4096x4096 .fp8e4m3) (h0 : a0.IsWhole) (a1 : Memref sig .tc .vmem S4096x2048 .fp8e4m3) (h1 : a1.IsWhole)
    (a2 : Memref sig .tc .smem S1 .f32) (h2 : a2.IsWhole) (a3 : Memref sig .tc .smem S1 .f32) (h3 : a3.IsWhole)
    (a4 : Memref sig .tc .vmem S4096x2048 .f32) (h4 : a4.IsWhole)
    (x : Vec Ideal S4096x4096 .fp8e4m3) (w : Vec Ideal S4096x2048 .fp8e4m3) (sx sw : Vec Ideal S1 .f32) :
    out0_A_4 c a0 h0 a1 h1 a2 h2 a3 h3 a4 h4 x w sx sw = k0_pay1 (F := Ideal) x w (sx (ix1 0)) (sw (ix1 0)) := by
  unfold out0_A_4
  refine (View.read_writes_full VO0_4 VO0_4.junk inb_S4096x2048_S4096x2048_0_0 _ []).trans ?_
  show k0_pay1 (F := Ideal)
      (a0.view.readAt (Elt Ideal) (Rect.unit (s := S4096x4096) ![0, 0] S4096x4096.size inb_S4096x4096_S4096x4096_0_0).toLoadRect (h0.unread x))
      (a1.view.readAt (Elt Ideal) (Rect.unit (s := S4096x2048) ![0, 0] S4096x2048.size inb_S4096x2048_S4096x2048_0_0).toLoadRect (h1.unread w))
      (a2.view.readAt (Elt Ideal) (Rect.unit (s := S1) ![0] S1.size inb_S1_S1_0).toLoadRect (h2.unread sx) _)
      (a3.view.readAt (Elt Ideal) (Rect.unit (s := S1) ![0] S1.size inb_S1_S1_0).toLoadRect (h3.unread sw) _) = _
  rw [View.readAt_full, View.readAt_full, View.readAt_full, View.readAt_full, h0.read_unread, h1.read_unread, h2.read_unread, h3.read_unread]
  exact congrArg₂ (k0_pay1 (F := Ideal) x w) (congrArg sx (one_place' _ _)) (congrArg sw (one_place' _ _))

theorem ref_final : (dats m' 0 0).arrAt 4 cfg0.N = refv m' := by
  have hf : ∀ t : Fin cfg0.N, (dats m' 0 0).flushed 4 t = ((cfg0.win 4).blk t).view.read (Elt Ideal) (refv m') := fun t => by
    rw [flushed4_A, stored, iblk_x, iblk_w, iblk_sx, iblk_sw]
    funext j
    exact (congrArg (refv m') (ref_emb_out t j)).symm
  refine (dats m' 0 0).arrAt_eq_of_cover 4 (refv m') (fun t _ => hf t) (fun i => ⟨(⟨0, by decide⟩ : Fin cfg0.N), rfl, ?_⟩)
  have h := ((cfg0.win 4).blk (⟨0, by decide⟩ : Fin cfg0.N)).view.emb_mem_set i
  rwa [ref_emb_out] at h

theorem refv_apply (r : Fin 4096) (n : Fin 2048) :
    refv m' (ix2 r n) = cell (HMul.hMul (α := EReal) (β := EReal) (m' (((0 : Dev nD) : Thread nD τ).loc main_arg2) (ix1 0)) (m' (((0 : Dev nD) : Thread nD τ).loc main_arg3) (ix1 0)) : EReal)
      (fun j => m' (((0 : Dev nD) : Thread nD τ).loc main_arg0) (ix2 r j)) (fun j => m' (((0 : Dev nD) : Thread nD τ).loc main_arg1) (ix2 j n)) :=
  ref_apply _ _ _ _ r n

end Reference

/-! ## The claim -/

/-- Where place `(r, n)` of device `c`'s block of columns is in the whole array. -/
theorem col_idx (a : Nat) (h : Layout.Tiles ⟨2, ![a, 256]⟩ ⟨2, ![a, 2048]⟩ 1 8) (c : Fin 8) (r : Fin a) (n : Fin 256) :
    h.idx c (ix2 r n) = ix2 r ⟨c.val * 256 + n.val, by omega⟩ := by
  funext b
  match b with
  | ⟨0, _⟩ => rfl
  | ⟨1, _⟩ => rfl

/-- Where place `(r, n)` of device `k`'s block of rows is in the whole array. -/
theorem row_idx (h : Layout.Tiles ⟨2, ![512, 4096]⟩ ⟨2, ![4096, 4096]⟩ 0 8) (k : Fin 8) (r : Fin 512) (n : Fin 4096) :
    h.idx k (ix2 r n) = ix2 ⟨k.val * 512 + r.val, by omega⟩ n := by
  funext b
  match b with
  | ⟨0, _⟩ => rfl
  | ⟨1, _⟩ => rfl

theorem algebraic : Cert.algebraic_KernelIdeal_ReferenceIdeal (hKernelIdeal := Cert.KernelIdeal.Gen.facts) (hReferenceIdeal := Cert.ReferenceIdeal.Gen.facts) := by
  intro m g m' g' _ hm
  refine ⟨refv m', ?_, ?_⟩
  · refine (θ_run _ _ _).mono (fun r h c => ?_) (Cert.KernelIdealProof.run_main (F := Ideal) m g)
    obtain ⟨h, -⟩ := h
    refine ⟨?_, (h c (0 : Fin 5)).trans (Cert.KernelIdealProof.final_x m g c), (h c (1 : Fin 5)).trans (Cert.KernelIdealProof.final_w m g c),
      (h c (2 : Fin 5)).trans (Cert.KernelIdealProof.final_sx m g c), (h c (3 : Fin 5)).trans (Cert.KernelIdealProof.final_sw m g c)⟩
    refine ((h c (4 : Fin 5)).trans (final_out m g c)).trans ?_
    funext i
    obtain ⟨r, n, rfl⟩ : ∃ (r : Fin 4096) (n : Fin 256), i = ix2 r n := ⟨i 0, i 1, eq_ix2 i⟩
    rw [outval_apply]
    refine Eq.trans ?_ ((congrArg (refv m') (col_idx 4096 _ c r n)).trans (refv_apply m' r _)).symm
    obtain ⟨-, hw, hsx, hsw⟩ := hm c
    have hx := (hm (rowDev r)).1
    rw [hw, hsx, hsw, hx]
    refine congrArg₂ (cell _) (funext fun j => ?_) (funext fun j => ?_)
    · refine congrArg (m' _) ((row_idx _ (rowDev r) _ j).trans ?_)
      refine congrArg (fun q : Fin 4096 => ix2 q j) (Fin.ext ?_)
      show r.val / 512 * 512 + r.val % 512 = r.val
      omega
    · exact congrArg (m' _) (col_idx 4096 _ c j n)
  · refine (θ_run _ _ _).mono (fun r h => ?_) (Cert.ReferenceIdeal.Value.run_blocks (F := Ideal) m' g')
    obtain ⟨h, ha⟩ := h 0
    exact ⟨h.trans (ref_final m'), ha⟩

end Cert.ValueProof

end
-- ==== Proof.lean ====
/- The proof of the claims: the frame of the kernel as printed and of its ideal reading, each from the run of the whole
   program on the eight devices (KernelLaunch, KernelIdealLaunch); the frame of the reference; and that
   each device's result is its block of the reference's (Value). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelLaunch
public import proofs.«01_k».proof.Proof.KernelIdealLaunch
public import proofs.«01_k».proof.Proof.Value
public import Idealize.ShloMosaic.Adequacy
public import Idealize.ShloMosaic.Init

@[expose] public section

noncomputable section

namespace Cert.Proof

open Idealize.ShloMosaic Idealize.SL.Sem

/-- The kernel as printed: it ends, its arguments as they were, every counter at zero. -/
theorem frame_kernel : Cert.quiescent_Kernel (hKernel := Cert.Kernel.Gen.facts) := fun m g _ =>
  (θ_run _ _ _).mono (fun r h => ⟨fun c => ⟨(h.1 c (0 : Fin 5)).trans (Cert.KernelProof.final_x m g c), (h.1 c (1 : Fin 5)).trans (Cert.KernelProof.final_w m g c),
      (h.1 c (2 : Fin 5)).trans (Cert.KernelProof.final_sx m g c), (h.1 c (3 : Fin 5)).trans (Cert.KernelProof.final_sw m g c)⟩, h.2⟩)
    (Cert.KernelProof.run_main m g)

/-- The same of its ideal reading. -/
theorem frame_kernelIdeal : Cert.quiescent_KernelIdeal (hKernelIdeal := Cert.KernelIdeal.Gen.facts) := fun m g _ =>
  (θ_run _ _ _).mono (fun r h => ⟨fun c => ⟨(h.1 c (0 : Fin 5)).trans (Cert.KernelIdealProof.final_x m g c), (h.1 c (1 : Fin 5)).trans (Cert.KernelIdealProof.final_w m g c),
      (h.1 c (2 : Fin 5)).trans (Cert.KernelIdealProof.final_sx m g c), (h.1 c (3 : Fin 5)).trans (Cert.KernelIdealProof.final_sw m g c)⟩, h.2⟩)
    (Cert.KernelIdealProof.run_main m g)

theorem claim : Cert.Claim := ⟨Cert.Kernel.Gen.facts, Cert.KernelIdeal.Gen.facts, Cert.ReferenceIdeal.Gen.facts,
  frame_kernel, frame_kernelIdeal, fun m g _ => Cert.ReferenceIdeal.Gen.frame m g, trivial, Cert.ValueProof.algebraic⟩

end Cert.Proof

end
